-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x256 : Shape := ⟨2, ![4096, 256]⟩
abbrev S1 : Shape := ⟨1, ![1]⟩
abbrev S32x128x4096 : Shape := ⟨3, ![32, 128, 4096]⟩
abbrev S16 : Shape := ⟨1, ![16]⟩
abbrev S15 : Shape := ⟨1, ![15]⟩
abbrev S_ : Shape := ⟨0, ![]⟩
abbrev S1x128x4096 : Shape := ⟨3, ![1, 128, 4096]⟩
abbrev S128x256 : Shape := ⟨2, ![128, 256]⟩

abbrev nBuf : Space → Nat
  | .hbm => 5
  | .vmem => 5
  | .smem => 2
  | _ => 0

abbrev bufTy : (tb : Table) → Fin (tcTables nBuf tb) → BufTy
  | .hbm, ⟨0, _⟩ => ⟨S128x4096, .fp8e4m3⟩
  | .hbm, ⟨1, _⟩ => ⟨S4096x256, .fp8e5m2⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S128x4096, .fp8e4m3⟩
  | .local _ .vmem, ⟨1, _⟩ => ⟨S4096x256, .fp8e5m2⟩
  | .local _ .vmem, ⟨2, _⟩ => ⟨S4096x256, .f32⟩
  | .local _ .vmem, ⟨3, _⟩ => ⟨S32x128x4096, .fp8e4m3⟩
  | .local _ .vmem, ⟨4, _⟩ => ⟨S4096x256, .bf16⟩
  | .local _ .smem, ⟨0, _⟩ => ⟨S1, .f32⟩
  | .local _ .smem, ⟨1, _⟩ => ⟨S1, .f32⟩
  | _, _ => ⟨S128x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v15 : Index := Scalar.indexCast v2
  let c0_11 : Index := 0#32
  let c0_12 : Index := 0#32
  ![v15.toNat, 0, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_17 : BitVec 32 := 0#32
  let c0_i32_18 : BitVec 32 := 0#32
  ![v2.toNat, 0, 0]
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_15 : BitVec 32 := 1#32
  let v19 : BitVec 32 := Scalar.muli v7 c1_i32_15
  let v20 : BitVec 32 := Scalar.addi c0_i32_16 v19
  v20.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_23 : BitVec 32 := 1#32
  let v29 : BitVec 32 := Scalar.muli v5 c1_i32_23
  let v30 : BitVec 32 := Scalar.addi c0_i32_24 v29
  v30.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v56 : BitVec 32 := Scalar.muli v2 c128_i32
  let v57 : Index := Scalar.indexCast v56
  let c0_39 : Index := 0#32
  ![v57.toNat, 0]
def k0_off4 (d0 : Dev nD) (c0_i32_42 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_40 : BitVec 32 := 32#32
  let v59 : BitVec 32 := Scalar.addi v2 c32_i32_40
  let c1_i32_41 : BitVec 32 := 1#32
  let v60 : BitVec 32 := Scalar.subi v59 c1_i32_41
  let v61 : BitVec 32 := Scalar.subi v60 c0_i32_42
  let c32_i32_43 : BitVec 32 := 32#32
  let v62 : BitVec 32 := Scalar.remsi v61 c32_i32_43
  let c0_i32_48 : BitVec 32 := 0#32
  let c0_i32_49 : BitVec 32 := 0#32
  ![v62.toNat, 0, 0]
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_54 : BitVec 32 := 1#32
  let v71 : BitVec 32 := Scalar.muli v7 c1_i32_54
  let v72 : BitVec 32 := Scalar.addi c0_i32_55 v71
  v72.toNat
def k0_off5 (d0 : Dev nD) (c0_i32_61 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_60 : BitVec 32 := 1#32
  let v81 : BitVec 32 := Scalar.addi v2 c1_i32_60
  let v82 : BitVec 32 := Scalar.addi v81 c0_i32_61
  let c32_i32_62 : BitVec 32 := 32#32
  let v83 : BitVec 32 := Scalar.remsi v82 c32_i32_62
  let c0_i32_67 : BitVec 32 := 0#32
  let c0_i32_68 : BitVec 32 := 0#32
  ![v83.toNat, 0, 0]
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_73 : BitVec 32 := 1#32
  let v92 : BitVec 32 := Scalar.muli v5 c1_i32_73
  let v93 : BitVec 32 := Scalar.addi c0_i32_74 v92
  v93.toNat
def k0_off6 (d0 : Dev nD) (c0_i32_42 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_40 : BitVec 32 := 32#32
  let v59 : BitVec 32 := Scalar.addi v2 c32_i32_40
  let c1_i32_41 : BitVec 32 := 1#32
  let v60 : BitVec 32 := Scalar.subi v59 c1_i32_41
  let v61 : BitVec 32 := Scalar.subi v60 c0_i32_42
  let c32_i32_43 : BitVec 32 := 32#32
  let v62 : BitVec 32 := Scalar.remsi v61 c32_i32_43
  let v102 : Index := Scalar.indexCast v62
  let c0_79 : Index := 0#32
  let c0_80 : Index := 0#32
  ![v102.toNat, 0, 0]
def k0_off7 (d0 : Dev nD) (c0_i32_42 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_40 : BitVec 32 := 32#32
  let v59 : BitVec 32 := Scalar.addi v2 c32_i32_40
  let c1_i32_41 : BitVec 32 := 1#32
  let v60 : BitVec 32 := Scalar.subi v59 c1_i32_41
  let v61 : BitVec 32 := Scalar.subi v60 c0_i32_42
  let c32_i32_43 : BitVec 32 := 32#32
  let v62 : BitVec 32 := Scalar.remsi v61 c32_i32_43
  let c128_i32_84 : BitVec 32 := 128#32
  let v110 : BitVec 32 := Scalar.muli v62 c128_i32_84
  let v111 : Index := Scalar.indexCast v110
  let c0_85 : Index := 0#32
  ![v111.toNat, 0]
def k0_off8 (d0 : Dev nD) (c0_i32_61 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_60 : BitVec 32 := 1#32
  let v81 : BitVec 32 := Scalar.addi v2 c1_i32_60
  let v82 : BitVec 32 := Scalar.addi v81 c0_i32_61
  let c32_i32_62 : BitVec 32 := 32#32
  let v83 : BitVec 32 := Scalar.remsi v82 c32_i32_62
  let v113 : Index := Scalar.indexCast v83
  let c0_86 : Index := 0#32
  let c0_87 : Index := 0#32
  ![v113.toNat, 0, 0]
def k0_off9 (d0 : Dev nD) (c0_i32_61 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_60 : BitVec 32 := 1#32
  let v81 : BitVec 32 := Scalar.addi v2 c1_i32_60
  let v82 : BitVec 32 := Scalar.addi v81 c0_i32_61
  let c32_i32_62 : BitVec 32 := 32#32
  let v83 : BitVec 32 := Scalar.remsi v82 c32_i32_62
  let c128_i32_91 : BitVec 32 := 128#32
  let v121 : BitVec 32 := Scalar.muli v83 c128_i32_91
  let v122 : Index := Scalar.indexCast v121
  let c0_92 : Index := 0#32
  ![v122.toNat, 0]
def k0_dev7 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_107 : BitVec 32 := 1#32
  let v136 : BitVec 32 := Scalar.muli v7 c1_i32_107
  let v137 : BitVec 32 := Scalar.addi c0_i32_108 v136
  v137.toNat
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_126 : BitVec 32 := 1#32
  let v157 : BitVec 32 := Scalar.muli v5 c1_i32_126
  let v158 : BitVec 32 := Scalar.addi c0_i32_127 v157
  v158.toNat
def k0_dev9 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_159 : BitVec 32 := 1#32
  let v201 : BitVec 32 := Scalar.muli v7 c1_i32_159
  let v202 : BitVec 32 := Scalar.addi c0_i32_160 v201
  v202.toNat
def k0_dev10 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_178 : BitVec 32 := 1#32
  let v222 : BitVec 32 := Scalar.muli v5 c1_i32_178
  let v223 : BitVec 32 := Scalar.addi c0_i32_179 v222
  v223.toNat
def k0_dev11 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_211 : BitVec 32 := 1#32
  let v266 : BitVec 32 := Scalar.muli v7 c1_i32_211
  let v267 : BitVec 32 := Scalar.addi c0_i32_212 v266
  v267.toNat
def k0_dev12 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_230 : BitVec 32 := 1#32
  let v287 : BitVec 32 := Scalar.muli v5 c1_i32_230
  let v288 : BitVec 32 := Scalar.addi c0_i32_231 v287
  v288.toNat
def k0_dev13 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_263 : BitVec 32 := 1#32
  let v331 : BitVec 32 := Scalar.muli v7 c1_i32_263
  let v332 : BitVec 32 := Scalar.addi c0_i32_264 v331
  v332.toNat
def k0_dev14 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_282 : BitVec 32 := 1#32
  let v352 : BitVec 32 := Scalar.muli v5 c1_i32_282
  let v353 : BitVec 32 := Scalar.addi c0_i32_283 v352
  v353.toNat
def k0_dev15 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_315 : BitVec 32 := 1#32
  let v396 : BitVec 32 := Scalar.muli v7 c1_i32_315
  let v397 : BitVec 32 := Scalar.addi c0_i32_316 v396
  v397.toNat
def k0_dev16 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_334 : BitVec 32 := 1#32
  let v417 : BitVec 32 := Scalar.muli v5 c1_i32_334
  let v418 : BitVec 32 := Scalar.addi c0_i32_335 v417
  v418.toNat
def k0_dev17 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_367 : BitVec 32 := 1#32
  let v461 : BitVec 32 := Scalar.muli v7 c1_i32_367
  let v462 : BitVec 32 := Scalar.addi c0_i32_368 v461
  v462.toNat
def k0_dev18 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_386 : BitVec 32 := 1#32
  let v482 : BitVec 32 := Scalar.muli v5 c1_i32_386
  let v483 : BitVec 32 := Scalar.addi c0_i32_387 v482
  v483.toNat
def k0_dev19 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_419 : BitVec 32 := 1#32
  let v526 : BitVec 32 := Scalar.muli v7 c1_i32_419
  let v527 : BitVec 32 := Scalar.addi c0_i32_420 v526
  v527.toNat
def k0_dev20 (d0 : Dev nD) : Nat :=
  let c0_i32_439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_438 : BitVec 32 := 1#32
  let v547 : BitVec 32 := Scalar.muli v5 c1_i32_438
  let v548 : BitVec 32 := Scalar.addi c0_i32_439 v547
  v548.toNat
def k0_dev21 (d0 : Dev nD) : Nat :=
  let c0_i32_472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_471 : BitVec 32 := 1#32
  let v591 : BitVec 32 := Scalar.muli v7 c1_i32_471
  let v592 : BitVec 32 := Scalar.addi c0_i32_472 v591
  v592.toNat
def k0_dev22 (d0 : Dev nD) : Nat :=
  let c0_i32_491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_490 : BitVec 32 := 1#32
  let v612 : BitVec 32 := Scalar.muli v5 c1_i32_490
  let v613 : BitVec 32 := Scalar.addi c0_i32_491 v612
  v613.toNat
def k0_dev23 (d0 : Dev nD) : Nat :=
  let c0_i32_524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_523 : BitVec 32 := 1#32
  let v656 : BitVec 32 := Scalar.muli v7 c1_i32_523
  let v657 : BitVec 32 := Scalar.addi c0_i32_524 v656
  v657.toNat
def k0_dev24 (d0 : Dev nD) : Nat :=
  let c0_i32_543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_542 : BitVec 32 := 1#32
  let v677 : BitVec 32 := Scalar.muli v5 c1_i32_542
  let v678 : BitVec 32 := Scalar.addi c0_i32_543 v677
  v678.toNat
def k0_dev25 (d0 : Dev nD) : Nat :=
  let c0_i32_576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_575 : BitVec 32 := 1#32
  let v721 : BitVec 32 := Scalar.muli v7 c1_i32_575
  let v722 : BitVec 32 := Scalar.addi c0_i32_576 v721
  v722.toNat
def k0_dev26 (d0 : Dev nD) : Nat :=
  let c0_i32_595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_594 : BitVec 32 := 1#32
  let v742 : BitVec 32 := Scalar.muli v5 c1_i32_594
  let v743 : BitVec 32 := Scalar.addi c0_i32_595 v742
  v743.toNat
def k0_dev27 (d0 : Dev nD) : Nat :=
  let c0_i32_628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_627 : BitVec 32 := 1#32
  let v786 : BitVec 32 := Scalar.muli v7 c1_i32_627
  let v787 : BitVec 32 := Scalar.addi c0_i32_628 v786
  v787.toNat
def k0_dev28 (d0 : Dev nD) : Nat :=
  let c0_i32_647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_646 : BitVec 32 := 1#32
  let v807 : BitVec 32 := Scalar.muli v5 c1_i32_646
  let v808 : BitVec 32 := Scalar.addi c0_i32_647 v807
  v808.toNat
def k0_dev29 (d0 : Dev nD) : Nat :=
  let c0_i32_680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_679 : BitVec 32 := 1#32
  let v851 : BitVec 32 := Scalar.muli v7 c1_i32_679
  let v852 : BitVec 32 := Scalar.addi c0_i32_680 v851
  v852.toNat
def k0_dev30 (d0 : Dev nD) : Nat :=
  let c0_i32_699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_698 : BitVec 32 := 1#32
  let v872 : BitVec 32 := Scalar.muli v5 c1_i32_698
  let v873 : BitVec 32 := Scalar.addi c0_i32_699 v872
  v873.toNat
def k0_dev31 (d0 : Dev nD) : Nat :=
  let c0_i32_732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_731 : BitVec 32 := 1#32
  let v916 : BitVec 32 := Scalar.muli v7 c1_i32_731
  let v917 : BitVec 32 := Scalar.addi c0_i32_732 v916
  v917.toNat
def k0_dev32 (d0 : Dev nD) : Nat :=
  let c0_i32_751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_750 : BitVec 32 := 1#32
  let v937 : BitVec 32 := Scalar.muli v5 c1_i32_750
  let v938 : BitVec 32 := Scalar.addi c0_i32_751 v937
  v938.toNat
def k0_dev33 (d0 : Dev nD) : Nat :=
  let c0_i32_784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_783 : BitVec 32 := 1#32
  let v981 : BitVec 32 := Scalar.muli v7 c1_i32_783
  let v982 : BitVec 32 := Scalar.addi c0_i32_784 v981
  v982.toNat
abbrev stage0_0 : Fin 1 → Memref sig .tc .vmem S128x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Program.lean ====
/- The printed kernel body regrouped by what it does: the opening (handshake, first stores, first two sends, own
   product), the ring rounds, and the waits for its own sends. The regrouping is the printed program itself. -/
module

public import proofs.«01_k».proof.Proof.Gen.KernelIdeal.Skeleton
public import proofs.«01_k».proof.Proof.Gen.KernelIdeal.Launch

@[expose] public section

set_option synthInstance.maxSize 4096

noncomputable section

namespace Cert.KernelIdeal.Ring

open Idealize.ShloMosaic Idealize.SL.Sem Cert.KernelIdeal.Gen

variable {F : FTy → Type} [FloatOps F]

/-- Cell `h` of an array of sixteen transfer semaphores. -/
abbrev at16 (S : DmaSems sig S16) (h : ℕ) (hi : ∀ a, (![h] : Fin 1 → Nat) a + S1.size a ≤ S16.size a) : DmaSem sig :=
  ((S.slice (Rect.unit (s := S16) ![h] S1.size hi)).squeeze S_ squeezes_S1_S_).sem
/-- Cell `h` of an array of fifteen transfer semaphores. -/
abbrev at15 (S : DmaSems sig S15) (h : ℕ) (hi : ∀ a, (![h] : Fin 1 → Nat) a + S1.size a ≤ S15.size a) : DmaSem sig :=
  ((S.slice (Rect.unit (s := S15) ![h] S1.size hi)).squeeze S_ squeezes_S1_S_).sem

theorem in16 (h : ℕ) (hh : h < 16) : ∀ a, (![h] : Fin 1 → Nat) a + S1.size a ≤ S16.size a :=
  fun a => by fin_cases a; show h + 1 ≤ 16; omega
theorem in15 (h : ℕ) (hh : h < 15) : ∀ a, (![h] : Fin 1 → Nat) a + S1.size a ≤ S15.size a :=
  fun a => by fin_cases a; show h + 1 ≤ 15; omega

/-- The product of one gathered block with the weights, scaled: what one round writes to its rows of the result. -/
def prodAt (s : F .f32) (x : Vec F S1x128x4096 .fp8e4m3) (w : Vec F S4096x256 .bf16) : FVec F S128x256 .f32 :=
  mulf (matmul dot_S128x4096_S4096x256_S128x256_1_0_0_1_n_n none
    (extf .bf16 (shapeCast S128x4096 x shapeCasts_S1x128x4096_S128x4096 : FVec F S128x4096 .fp8e4m3) bitsLt_fp8e4m3_bf16) w
    (constant S128x256 .f32 0x00000000#32)) (broadcast S128x256 s)

section
variable (arg0 : Memref sig .tc .vmem S128x4096 .fp8e4m3) (harg0 : arg0.IsWhole) (arg1 : Memref sig .tc .vmem S4096x256 .fp8e5m2) (harg1 : arg1.IsWhole) (arg2 : Memref sig .tc .smem S1 .f32) (harg2 : arg2.IsWhole) (arg3 : Memref sig .tc .smem S1 .f32) (harg3 : arg3.IsWhole) (arg4 : Memref sig .tc .vmem S4096x256 .f32) (harg4 : arg4.IsWhole) (arg5 : Memref sig .tc .vmem S32x128x4096 .fp8e4m3) (harg5 : arg5.IsWhole) (arg6 : Memref sig .tc .vmem S4096x256 .bf16) (harg6 : arg6.IsWhole) (arg7 : DmaSems sig S16) (arg8 : DmaSems sig S16) (arg9 : DmaSems sig S15) (arg10 : DmaSems sig S15)

/-- The block of the gather buffer at an offset, as the transfers name it. -/
abbrev blkAt (off : Fin 3 → ℕ) (hin : ∀ a, off a + S1x128x4096.size a ≤ S32x128x4096.size a) : Memref sig .tc .vmem S128x4096 .fp8e4m3 :=
  (arg5.slice (Rect.unit (s := S32x128x4096) off S1x128x4096.size hin) (fun _ => rfl)).squeeze S128x4096 squeezes_S1x128x4096_S128x4096

/-- A block sent to the same place on another device. -/
abbrev sendP (n : Dev nD) (sS sR : DmaSem sig) (off : Fin 3 → ℕ) (hin : ∀ a, off a + S1x128x4096.size a ≤ S32x128x4096.size a)
    (hw : (Rect.unit (s := S32x128x4096) off S1x128x4096.size hin).WholeWords (EltTy.packing .fp8e4m3)) :
    Prog (TpuEff nD τ sig (Elt F) Λ₀ .tc) PUnit :=
  Prog.lift (.enqueueDma (blkAt arg5 off hin) (.remote (Dev.tc n) (blkAt arg5 off hin) (.dma sS)) (.dma sR)
    ((harg5.wordExact_slice rfl _ hw).reshape _ _) ((harg5.wordExact_slice rfl _ hw).reshape _ _) ⟨⟨rfl, Or.inl rfl⟩, trivial⟩)

/-- A wait for one block's worth on a transfer semaphore. -/
abbrev waitP (s : DmaSem sig) (off : Fin 3 → ℕ) (hin : ∀ a, off a + S1x128x4096.size a ≤ S32x128x4096.size a)
    (hw : (Rect.unit (s := S32x128x4096) off S1x128x4096.size hin).WholeWords (EltTy.packing .fp8e4m3)) :
    Prog (TpuEff nD τ sig (Elt F) Λ₀ .tc) PUnit :=
  Prog.lift (.waitDma2 s (blkAt arg5 off hin) (blkAt arg5 off hin)
    ((harg5.wordExact_slice rfl _ hw).reshape _ _) ((harg5.wordExact_slice rfl _ hw).reshape _ _))

/-- One block's product: read the block and the weights, write the scaled product to its rows. -/
abbrev gemmP (v : F .f32) (off : Fin 3 → ℕ) (hin : ∀ a, off a + S1x128x4096.size a ≤ S32x128x4096.size a)
    (oof : Fin 2 → ℕ) (oin : ∀ a, oof a + S128x256.size a ≤ S4096x256.size a) : Prog (TpuEff nD τ sig (Elt F) Λ₀ .tc) PUnit := do
  let x : Vec F S1x128x4096 .fp8e4m3 ← Prog.lift (.load arg5 (Rect.unit (s := S32x128x4096) off S1x128x4096.size hin).toLoadRect (View.loadsAt_vmem h_S1x128x4096))
  let w : Vec F S4096x256 .bf16 ← Prog.lift (.load arg6 (Rect.unit (s := S4096x256) ![0, 0] S4096x256.size inb_S4096x256_S4096x256_0_0).toLoadRect (View.loadsAt_vmem h_S4096x256))
  let _o : Vec F S128x256 .f32 ← Prog.lift (.load arg4 (Rect.unit (s := S4096x256) oof S128x256.size oin).toLoadRect (View.loadsAt_vmem h_S128x256))
  Prog.lift (.store arg4 (Rect.unit (s := S4096x256) oof S128x256.size oin) (prodAt v x w) Finset.univ (View.stores_vmem_bits_univ h_S128x256 rfl) (.inl rfl))

/-- The opening up to the store of the own block. -/
def openP (d : Dev nD) : Prog (TpuEff nD τ sig (Elt F) Λ₀ .tc) PUnit := do
  semSignalWord (⟨k0_dev1 d, k0_dev1_lt d⟩ : Dev nD) (SemArray.scalar (sig.barrier 0 rfl) : Sems sig S_).sem 1#32
  semSignalWord (⟨k0_dev2 d, k0_dev2_lt d⟩ : Dev nD) (SemArray.scalar (sig.barrier 0 rfl) : Sems sig S_).sem 1#32
  semWaitWord (SemArray.scalar (sig.barrier 0 rfl) : Sems sig S_).sem 2#32
  let x : Vec F S128x4096 .fp8e4m3 ← Prog.lift (.load arg0 (Rect.unit (s := S128x4096) ![0, 0] S128x4096.size inb_S128x4096_S128x4096_0_0).toLoadRect (View.loadsAt_vmem h_S128x4096))
  let _y : Vec F S1x128x4096 .fp8e4m3 ← Prog.lift (.load arg5 (Rect.unit (s := S32x128x4096) (k0_off1 d) S1x128x4096.size (k0_off1_inb d)).toLoadRect (View.loadsAt_vmem h_S1x128x4096))
  Prog.lift (.store arg5 (Rect.unit (s := S32x128x4096) (k0_off1 d) S1x128x4096.size (k0_off1_inb d)) (k0_pay1 x) Finset.univ (View.stores_vmem h_S1x128x4096 (harg5.storeExact_slice rfl _ (k0_off1_packedfp8e4m3 d)) (fun _ => rfl)) (.inl rfl))

/-- The scales read, their product, and the weights widened into their buffer. -/
def weightsP : Prog (TpuEff nD τ sig (Elt F) Λ₀ .tc) (F .f32) := do
  let a : Elt F .f32 ← smemLoad arg2 (Rect.unit (s := S1) ![0] S1.size inb_S1_S1_0) numel1_S1 rfl
  let b : Elt F .f32 ← smemLoad arg3 (Rect.unit (s := S1) ![0] S1.size inb_S1_S1_0) numel1_S1 rfl
  let w : Vec F S4096x256 .fp8e5m2 ← Prog.lift (.load arg1 (Rect.unit (s := S4096x256) ![0, 0] S4096x256.size inb_S4096x256_S4096x256_0_0).toLoadRect (View.loadsAt_vmem h_S4096x256))
  let _y : Vec F S4096x256 .bf16 ← Prog.lift (.load arg6 (Rect.unit (s := S4096x256) ![0, 0] S4096x256.size inb_S4096x256_S4096x256_0_0).toLoadRect (View.loadsAt_vmem h_S4096x256))
  Prog.lift (.store arg6 (Rect.unit (s := S4096x256) ![0, 0] S4096x256.size inb_S4096x256_S4096x256_0_0) (k0_pay3 w) Finset.univ (View.stores_vmem h_S4096x256 (harg6.storeExact_slice rfl _ packedbf16_S4096x256_S4096x256_0_0) (fun _ => rfl)) (.inl rfl))
  pure (k0_pay2 a b)

/-- The receive on the right-going ring of round `h`. -/
abbrev recvRP (d : Dev nD) (h : ℕ) (hh : h < 16) : Prog (TpuEff nD τ sig (Elt F) Λ₀ .tc) PUnit :=
  waitP arg5 harg5 (at16 arg8 h (in16 h hh)) (k0_off4 d (BitVec.ofNat 32 h)) (k0_off4_inb d ⟨h, hh⟩) (k0_off4_wordsfp8e4m3 d ⟨h, hh⟩)
/-- The receive on the left-going ring of round `h`. -/
abbrev recvLP (d : Dev nD) (h : ℕ) (hh : h < 15) : Prog (TpuEff nD τ sig (Elt F) Λ₀ .tc) PUnit :=
  waitP arg5 harg5 (at15 arg10 h (in15 h hh)) (k0_off5 d (BitVec.ofNat 32 h)) (k0_off5_inb d ⟨h, hh⟩) (k0_off5_wordsfp8e4m3 d ⟨h, hh⟩)
/-- The block received on the right-going ring in round `h` passed on. -/
abbrev passRP (d n : Dev nD) (h : ℕ) (hh : h + 1 < 16) : Prog (TpuEff nD τ sig (Elt F) Λ₀ .tc) PUnit :=
  sendP arg5 harg5 n (at16 arg7 (h + 1) (in16 _ hh)) (at16 arg8 (h + 1) (in16 _ hh)) (k0_off4 d (BitVec.ofNat 32 h))
    (k0_off4_inb d ⟨h, Nat.lt_of_succ_lt hh⟩) (k0_off4_wordsfp8e4m3 d ⟨h, Nat.lt_of_succ_lt hh⟩)
/-- The block received on the left-going ring in round `h` passed on. -/
abbrev passLP (d n : Dev nD) (h : ℕ) (hh : h + 1 < 15) : Prog (TpuEff nD τ sig (Elt F) Λ₀ .tc) PUnit :=
  sendP arg5 harg5 n (at15 arg9 (h + 1) (in15 _ hh)) (at15 arg10 (h + 1) (in15 _ hh)) (k0_off5 d (BitVec.ofNat 32 h))
    (k0_off5_inb d ⟨h, Nat.lt_of_succ_lt hh⟩) (k0_off5_wordsfp8e4m3 d ⟨h, Nat.lt_of_succ_lt hh⟩)
abbrev gemmRP (d : Dev nD) (v : F .f32) (h : ℕ) (hh : h < 16) : Prog (TpuEff nD τ sig (Elt F) Λ₀ .tc) PUnit :=
  gemmP arg4 arg5 arg6 v (k0_off6 d (BitVec.ofNat 32 h)) (k0_off6_inb d ⟨h, hh⟩) (k0_off7 d (BitVec.ofNat 32 h)) (k0_off7_inb d ⟨h, hh⟩)
abbrev gemmLP (d : Dev nD) (v : F .f32) (h : ℕ) (hh : h < 15) : Prog (TpuEff nD τ sig (Elt F) Λ₀ .tc) PUnit :=
  gemmP arg4 arg5 arg6 v (k0_off8 d (BitVec.ofNat 32 h)) (k0_off8_inb d ⟨h, hh⟩) (k0_off9 d (BitVec.ofNat 32 h)) (k0_off9_inb d ⟨h, hh⟩)

/-- A full round: receive and pass on in both directions, then both products. -/
def roundP (d n p : Dev nD) (v : F .f32) (h : ℕ) (hh : h < 14) : Prog (TpuEff nD τ sig (Elt F) Λ₀ .tc) PUnit := do
  recvRP arg5 harg5 arg8 d h (by omega)
  passRP arg5 harg5 arg7 arg8 d n h (by omega)
  recvLP arg5 harg5 arg10 d h (by omega)
  passLP arg5 harg5 arg9 arg10 d p h (by omega)
  gemmRP arg4 arg5 arg6 d v h (by omega)
  gemmLP arg4 arg5 arg6 d v h (by omega)

/-- The last two rounds: the right-going ring passes on once more, the left-going one ends. -/
def lastP (d n : Dev nD) (v : F .f32) : Prog (TpuEff nD τ sig (Elt F) Λ₀ .tc) PUnit := do
  recvRP arg5 harg5 arg8 d 14 (by omega)
  passRP arg5 harg5 arg7 arg8 d n 14 (by omega)
  recvLP arg5 harg5 arg10 d 14 (by omega)
  gemmRP arg4 arg5 arg6 d v 14 (by omega)
  gemmLP arg4 arg5 arg6 d v 14 (by omega)
  recvRP arg5 harg5 arg8 d 15 (by omega)
  gemmRP arg4 arg5 arg6 d v 15 (by omega)

/-- The wait for the own send `h` on the right-going ring. -/
abbrev drainRP (d : Dev nD) (h : ℕ) (hh : h < 16) : Prog (TpuEff nD τ sig (Elt F) Λ₀ .tc) PUnit :=
  waitP arg5 harg5 (at16 arg7 h (in16 h hh)) (k0_off2 d) (k0_off2_inb d) (k0_off2_wordsfp8e4m3 d)
/-- The wait for the own send `h` on the left-going ring. -/
abbrev drainLP (d : Dev nD) (h : ℕ) (hh : h < 15) : Prog (TpuEff nD τ sig (Elt F) Λ₀ .tc) PUnit :=
  waitP arg5 harg5 (at15 arg9 h (in15 h hh)) (k0_off2 d) (k0_off2_inb d) (k0_off2_wordsfp8e4m3 d)

/-- The first two sends, of the own block, one in each direction. -/
def firstP (d n p : Dev nD) : Prog (TpuEff nD τ sig (Elt F) Λ₀ .tc) PUnit := do
  sendP arg5 harg5 n (at16 arg7 0 (in16 0 (by omega))) (at16 arg8 0 (in16 0 (by omega))) (k0_off2 d) (k0_off2_inb d) (k0_off2_wordsfp8e4m3 d)
  sendP arg5 harg5 p (at15 arg9 0 (in15 0 (by omega))) (at15 arg10 0 (in15 0 (by omega))) (k0_off2 d) (k0_off2_inb d) (k0_off2_wordsfp8e4m3 d)

/-- Rounds `h, h+1, …` for the listed pairs of targets. -/
def roundsP (d : Dev nD) (v : F .f32) : (l : List (Dev nD × Dev nD)) → (h : ℕ) → h + l.length ≤ 14 → Prog (TpuEff nD τ sig (Elt F) Λ₀ .tc) PUnit
  | [], _, _ => pure ⟨⟩
  | q :: l, h, hl => do
      roundP arg4 arg5 harg5 arg6 arg7 arg8 arg9 arg10 d q.1 q.2 v h (by simp only [List.length_cons] at hl; omega)
      roundsP d v l (h + 1) (by simp only [List.length_cons] at hl; omega)

/-- The waits `h, h+1, …` (`k` of them) for the right-going sends. -/
def drainsR (d : Dev nD) : (k h : ℕ) → h + k ≤ 16 → Prog (TpuEff nD τ sig (Elt F) Λ₀ .tc) PUnit
  | 0, _, _ => pure ⟨⟩
  | k + 1, h, hk => do
      drainRP arg5 harg5 arg7 d h (by omega)
      drainsR d k (h + 1) (by omega)
/-- The waits `h, h+1, …` (`k` of them) for the left-going sends. -/
def drainsL (d : Dev nD) : (k h : ℕ) → h + k ≤ 15 → Prog (TpuEff nD τ sig (Elt F) Λ₀ .tc) PUnit
  | 0, _, _ => pure ⟨⟩
  | k + 1, h, hk => do
      drainLP arg5 harg5 arg9 d h (by omega)
      drainsL d k (h + 1) (by omega)

/-- Where the sends of rounds 0 to 13 go, right-going and left-going, as the program computes them. -/
def targets (d : Dev nD) : List (Dev nD × Dev nD) :=
  [(⟨k0_dev5 d, k0_dev5_lt d⟩, ⟨k0_dev6 d, k0_dev6_lt d⟩), (⟨k0_dev7 d, k0_dev7_lt d⟩, ⟨k0_dev8 d, k0_dev8_lt d⟩),
   (⟨k0_dev9 d, k0_dev9_lt d⟩, ⟨k0_dev10 d, k0_dev10_lt d⟩), (⟨k0_dev11 d, k0_dev11_lt d⟩, ⟨k0_dev12 d, k0_dev12_lt d⟩),
   (⟨k0_dev13 d, k0_dev13_lt d⟩, ⟨k0_dev14 d, k0_dev14_lt d⟩), (⟨k0_dev15 d, k0_dev15_lt d⟩, ⟨k0_dev16 d, k0_dev16_lt d⟩),
   (⟨k0_dev17 d, k0_dev17_lt d⟩, ⟨k0_dev18 d, k0_dev18_lt d⟩), (⟨k0_dev19 d, k0_dev19_lt d⟩, ⟨k0_dev20 d, k0_dev20_lt d⟩),
   (⟨k0_dev21 d, k0_dev21_lt d⟩, ⟨k0_dev22 d, k0_dev22_lt d⟩), (⟨k0_dev23 d, k0_dev23_lt d⟩, ⟨k0_dev24 d, k0_dev24_lt d⟩),
   (⟨k0_dev25 d, k0_dev25_lt d⟩, ⟨k0_dev26 d, k0_dev26_lt d⟩), (⟨k0_dev27 d, k0_dev27_lt d⟩, ⟨k0_dev28 d, k0_dev28_lt d⟩),
   (⟨k0_dev29 d, k0_dev29_lt d⟩, ⟨k0_dev30 d, k0_dev30_lt d⟩), (⟨k0_dev31 d, k0_dev31_lt d⟩, ⟨k0_dev32 d, k0_dev32_lt d⟩)]

/-- The body in order. -/
def bodyP (d : Dev nD) : Prog (TpuEff nD τ sig (Elt F) Λ₀ .tc) PUnit := do
  openP arg0 arg5 harg5 d
  firstP arg5 harg5 arg7 arg8 arg9 arg10 d ⟨k0_dev3 d, k0_dev3_lt d⟩ ⟨k0_dev4 d, k0_dev4_lt d⟩
  let v ← weightsP arg1 arg2 arg3 arg6 harg6
  gemmP arg4 arg5 arg6 v (k0_off1 d) (k0_off1_inb d) (k0_off3 d) (k0_off3_inb d)
  roundsP arg4 arg5 harg5 arg6 arg7 arg8 arg9 arg10 d v (targets d) 0 (Nat.le_refl 14)
  lastP arg4 arg5 harg5 arg6 arg7 arg8 arg10 d ⟨k0_dev33 d, k0_dev33_lt d⟩ v
  drainsR arg5 harg5 arg7 d 16 0 (by omega)
  drainsL arg5 harg5 arg9 d 15 0 (by omega)

set_option maxRecDepth 65536 in
set_option maxHeartbeats 4000000 in
/-- The printed body reads its device and runs the parts in order: by unfolding both. -/
theorem cc0_body_eq : cc0_body (F := F) arg0 harg0 arg1 harg1 arg2 harg2 arg3 harg3 arg4 harg4 arg5 harg5 arg6 harg6 arg7 arg8 arg9 arg10
    = .op .deviceId (fun d => bodyP arg0 arg1 arg2 arg3 arg4 arg5 harg5 arg6 harg6 arg7 arg8 arg9 arg10 d) := by
  chain_rfl

end

end Cert.KernelIdeal.Ring

end
-- ==== Proof.KernelIdeal.Books.lean ====
/- The ring, its transfers, and the bookkeeping of what a device holds: A device's holdings
   are kept as finite sets (`Book`) — the transfers still to start, those in the air, the receives still to come, the slots
   of which each share is at home, and the blocks whose rows of the result are written — and each operation is a change of
   those sets. -/
module

public import proofs.«01_k».proof.Proof.KernelIdeal.Program

@[expose] public section

noncomputable section

namespace Cert.KernelIdeal.Ring

open Cert.KernelIdeal Idealize.ShloMosaic

/-! ## The ring of devices and its transfers -/

set_option backward.proofsInPublic true in
/-- The right-hand neighbour. -/
def nxt (c : Dev nD) : Dev nD := ⟨(c.val + 1) % 32, Nat.mod_lt _ (by decide)⟩
set_option backward.proofsInPublic true in
/-- The left-hand neighbour. -/
def prv (c : Dev nD) : Dev nD := ⟨(c.val + 31) % 32, Nat.mod_lt _ (by decide)⟩

theorem prv_nxt (c : Dev nD) : prv (nxt c) = c := by revert c; decide +kernel
theorem nxt_prv (c : Dev nD) : nxt (prv c) = c := by revert c; decide +kernel
theorem nxt_ne_prv (c : Dev nD) : nxt c ≠ prv c := by revert c; decide +kernel
/-- One step round the ring. -/
def ring : Dev nD ≃ Dev nD := ⟨nxt, prv, prv_nxt, nxt_prv⟩

/-- A device's transfers: 0 to 15 to the right, 16 to 30 to the left. -/
abbrev J : Type := Fin 31
/-- Whether a transfer goes to the right. -/
abbrev toR (j : J) : Bool := decide (j.val < 16)
/-- A transfer's hop: how far the block it carries has already come. -/
abbrev hop (j : J) : ℕ := if j.val < 16 then j.val else j.val - 16
/-- Where a transfer goes. -/
def tgt (c : Dev nD) (j : J) : Dev nD := if j.val < 16 then nxt c else prv c
/-- Where the like-numbered transfer arriving here comes from. -/
def org (c : Dev nD) (j : J) : Dev nD := if j.val < 16 then prv c else nxt c
set_option backward.proofsInPublic true in
/-- The slot a transfer carries, counted from the sender. -/
def lent (j : J) : Fin 32 := if j.val < 16 then ⟨(32 - j.val) % 32, Nat.mod_lt _ (by decide)⟩ else ⟨j.val - 16, by omega⟩
set_option backward.proofsInPublic true in
/-- The slot it fills, counted from the receiver. -/
def got (j : J) : Fin 32 := if j.val < 16 then ⟨31 - j.val, by omega⟩ else ⟨j.val - 15, by omega⟩
set_option backward.proofsInPublic true in
/-- The slot `k` places on from device `c`. -/
def ab (c : Dev nD) (k : Fin 32) : Dev nD := ⟨(c.val + k.val) % 32, Nat.mod_lt _ (by decide)⟩

theorem org_tgt (c : Dev nD) (j : J) : org (tgt c j) j = c := by
  unfold org tgt; split; exacts [prv_nxt c, nxt_prv c]
theorem tgt_org (c : Dev nD) (j : J) : tgt (org c j) j = c := by
  unfold org tgt; split; exacts [nxt_prv c, prv_nxt c]
theorem ab_tgt_got : ∀ (c : Dev nD) (j : J), ab (tgt c j) (got j) = ab c (lent j) := by decide +kernel
theorem ab_zero : ∀ c : Dev nD, ab c 0 = c := by decide +kernel
theorem ab_injective : ∀ c : Dev nD, Function.Injective (ab c) := by decide +kernel
theorem ab_bijective (c : Dev nD) : Function.Bijective (ab c) := Finite.injective_iff_bijective.mp (ab_injective c)
theorem got_injective : Function.Injective got := by decide +kernel
theorem got_ne_zero : ∀ j : J, got j ≠ 0 := by decide +kernel
theorem got_image : insert 0 (Finset.univ.image got) = (Finset.univ : Finset (Fin 32)) := by decide +kernel

/-- What device `c` holds, as sets: transfers to start (`T`), in the air (`E`), not yet waited for (`S`); receives to
    come (`R`); slots whose right-going, left-going and reading share is at home (`A`, `B`, `G`); blocks done (`D`). -/
@[ext] structure Book where
  T : Finset J
  E : Finset J
  S : Finset J
  R : Finset J
  A : Finset (Fin 32)
  B : Finset (Fin 32)
  G : Finset (Fin 32)
  D : Finset (Fin 32)

namespace Book
/-- Transfer `j` starts. -/
def send (b : Book) (j : J) : Book := { b with
  T := b.T.erase j, E := insert j b.E
  A := if j.val < 16 then b.A.erase (lent j) else b.A, B := if j.val < 16 then b.B else b.B.erase (lent j) }
/-- Receive `j` is waited for. -/
def recv (b : Book) (j : J) : Book := { b with
  R := b.R.erase j, A := insert (got j) b.A, B := insert (got j) b.B, G := insert (got j) b.G }
/-- Block `k`'s rows are written. -/
def work (b : Book) (k : Fin 32) : Book := { b with D := insert k b.D }
/-- Transfer `j`'s end is waited for. -/
def drain (b : Book) (j : J) : Book := { b with
  E := b.E.erase j, S := b.S.erase j
  A := if j.val < 16 then insert (lent j) b.A else b.A, B := if j.val < 16 then b.B else insert (lent j) b.B }
end Book

/-! ## Device `c`'s holdings through the program -/

/-- Transfer `h` to the right and transfer `h` to the left. -/
abbrev jr (h : ℕ) : J := Fin.ofNat 31 h
abbrev jl (h : ℕ) : J := Fin.ofNat 31 (16 + h)

/-- Whether a transfer may start, a receive may be waited for, a transfer's end may be waited for. -/
abbrev Book.CanSend (b : Book) (j : J) : Prop := j ∈ b.T ∧ j ∉ b.E ∧ lent j ∈ (if j.val < 16 then b.A else b.B)
abbrev Book.CanRecv (b : Book) (j : J) : Prop := j ∈ b.R ∧ (∀ j' ∈ b.T, hop j < hop j') ∧ got j ∉ b.A ∧ got j ∉ b.B ∧ got j ∉ b.G
abbrev Book.CanDrain (b : Book) (j : J) : Prop := j ∈ b.E ∧ j ∈ b.S ∧ b.T = ∅ ∧ lent j ∉ (if j.val < 16 then b.A else b.B)

/-- After the handshake; -/
def b0 : Book := ⟨Finset.univ, ∅, Finset.univ, Finset.univ, {0}, {0}, {0}, ∅⟩
/-- after the first two sends; -/
def b1 : Book := (b0.send (jr 0)).send (jl 0)
/-- in the course of a round; -/
def r1 (b : Book) (h : ℕ) : Book := b.recv (jr h)
def r2 (b : Book) (h : ℕ) : Book := (r1 b h).send (jr (h + 1))
def r3 (b : Book) (h : ℕ) : Book := (r2 b h).recv (jl h)
def r4 (b : Book) (h : ℕ) : Book := (r3 b h).send (jl (h + 1))
/-- before round `h`; -/
def bk : ℕ → Book
  | 0 => b1.work 0
  | h + 1 => ((r4 (bk h) h).work (got (jr h))).work (got (jl h))
/-- after the last rounds; -/
def l1 : Book := ((r3 (bk 14) 14).work (got (jr 14))).work (got (jl 14))
def l2 : Book := (l1.recv (jr 15)).work (got (jr 15))
/-- after `k` of the final waits. -/
def dr : ℕ → Book
  | 0 => l2
  | k + 1 => (dr k).drain (Fin.ofNat 31 k)

theorem can_first : b0.CanSend (jr 0) ∧ (b0.send (jr 0)).CanSend (jl 0) ∧ (0 : Fin 32) ∈ b1.G := by decide +kernel
theorem can_round : ∀ h : Fin 14, (bk h.val).CanRecv (jr h.val) ∧ (r1 (bk h.val) h.val).CanSend (jr (h.val + 1))
    ∧ (r2 (bk h.val) h.val).CanRecv (jl h.val) ∧ (r3 (bk h.val) h.val).CanSend (jl (h.val + 1))
    ∧ got (jr h.val) ∈ (r4 (bk h.val) h.val).G ∧ got (jl h.val) ∈ (r4 (bk h.val) h.val).G := by decide +kernel
theorem can_last : (bk 14).CanRecv (jr 14) ∧ (r1 (bk 14) 14).CanSend (jr 15) ∧ (r2 (bk 14) 14).CanRecv (jl 14)
    ∧ got (jr 14) ∈ (r3 (bk 14) 14).G ∧ got (jl 14) ∈ (r3 (bk 14) 14).G ∧ l1.CanRecv (jr 15) ∧ got (jr 15) ∈ (l1.recv (jr 15)).G := by decide +kernel
theorem can_drain : ∀ k : Fin 31, (dr k.val).CanDrain (Fin.ofNat 31 k.val) := by decide +kernel
theorem dr_end : dr 31 = ⟨∅, ∅, ∅, ∅, Finset.univ, Finset.univ, Finset.univ, Finset.univ⟩ :=
  Book.ext (by decide +kernel) (by decide +kernel) (by decide +kernel) (by decide +kernel) (by decide +kernel) (by decide +kernel) (by decide +kernel) (by decide +kernel)

end Cert.KernelIdeal.Ring

end
-- ==== Proof.KernelIdeal.Protocol.lean ====
/- The agreement the devices keep, per transfer and per semaphore. Thirty-one transfers leave every device: sixteen
   hops to the right-hand neighbour and fifteen to the left-hand one, numbered together. Every slot of the gather buffer
   carries, on every device, the block of the device the slot is named after.

   Who waits and who pays, on device `c`:
   * its barrier cell is waited on once, for two units: one from each neighbour, each of which hands over the slots of
     its own gather buffer that `c` will fill;
   * its receive cell `j` is waited on once, for one block's credit, paid by the landing of transfer `j` of the
     neighbour it comes from; the landing hands over the slot holding its block;
   * its send cell `j` is waited on once, at the end, for one block's credit, paid by its own transfer `j`; the
     payment hands back the share of the slot that was lent to the transfer. -/
module

public import proofs.«01_k».proof.Proof.KernelIdeal.Books
public import proofs.«01_k».proof.Proof.KernelIdeal.Program
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Semaphores -/

set_option backward.proofsInPublic true in
/-- The send semaphore of a transfer. -/
def sndS (j : J) : DmaSem sig := if j.val < 16 then ⟨5 + j.val, by show _ < 67; omega⟩ else ⟨21 + j.val, by show _ < 67; omega⟩
set_option backward.proofsInPublic true in
/-- The receive semaphore of a transfer. -/
def rcvS (j : J) : DmaSem sig := if j.val < 16 then ⟨21 + j.val, by show _ < 67; omega⟩ else ⟨36 + j.val, by show _ < 67; omega⟩
/-- The runtime's barrier semaphore. -/
abbrev barS : Sem sig := (SemArray.scalar (sig.barrier 0 rfl) : Sems sig S_).sem

/-- A core's cells of this protocol: the barrier, the sends, the receives. -/
abbrev Cel : Type := Option (J ⊕ J)
/-- The semaphore of a cell. -/
def csem : Cel → SemLoc sig
  | none => .reg barS
  | some (.inl j) => .dma (sndS j)
  | some (.inr j) => .dma (rcvS j)
set_option backward.proofsInPublic true in
/-- Which cell a semaphore is. -/
def role : SemLoc sig → Option Cel
  | .reg _ => some none
  | .dma s =>
    if h : s.val < 5 then none
    else if h : s.val < 21 then some (some (.inl ⟨s.val - 5, by omega⟩))
    else if h : s.val < 37 then some (some (.inr ⟨s.val - 21, by omega⟩))
    else if h : s.val < 52 then some (some (.inl ⟨s.val - 21, by omega⟩))
    else some (some (.inr ⟨s.val - 36, by have := s.isLt; have h : s.val < 67 := s.isLt; omega⟩))

theorem role_csem : ∀ q : Cel, role (csem q) = some q := by decide +kernel
theorem csem_injective : Function.Injective csem := fun a b h => by
  have := congrArg role h; rwa [role_csem, role_csem, Option.some_inj] at this
theorem role_bar : role (.reg barS) = some none := role_csem none
theorem role_snd (j : J) : role (.dma (sndS j)) = some (some (.inl j)) := role_csem (some (.inl j))
theorem role_rcv (j : J) : role (.dma (rcvS j)) = some (some (.inr j)) := role_csem (some (.inr j))

abbrev barCell (c : Dev nD) : GSem nD τ sig := ((c : Thread nD τ), .reg barS)
abbrev sndCell (c : Dev nD) (j : J) : GSem nD τ sig := ((c : Thread nD τ), .dma (sndS j))
abbrev rcvCell (c : Dev nD) (j : J) : GSem nD τ sig := ((c : Thread nD τ), .dma (rcvS j))
abbrev kcell (x : Dev nD × Cel) : GSem nD τ sig := ((x.1 : Thread nD τ), csem x.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The program's send and receive semaphores are these. -/
theorem sem_sndR : ∀ h : Fin 16, at16 cc0_scratch2 h.val (in16 h.val h.isLt) = sndS ⟨h.val, by omega⟩ := by decide +kernel
theorem sem_rcvR : ∀ h : Fin 16, at16 cc0_scratch3 h.val (in16 h.val h.isLt) = rcvS ⟨h.val, by omega⟩ := by decide +kernel
theorem sem_sndL : ∀ h : Fin 15, at15 cc0_scratch4 h.val (in15 h.val h.isLt) = sndS ⟨16 + h.val, by omega⟩ := by decide +kernel
theorem sem_rcvL : ∀ h : Fin 15, at15 cc0_scratch5 h.val (in15 h.val h.isLt) = rcvS ⟨16 + h.val, by omega⟩ := by decide +kernel

/-! ## Buffers and contents -/

abbrev xM : Memref sig .tc .vmem S128x4096 .fp8e4m3 := Memref.whole cc0_stg0_0
abbrev wM : Memref sig .tc .vmem S4096x256 .fp8e5m2 := Memref.whole cc0_stg1_0
abbrev aM : Memref sig .tc .smem S1 .f32 := Memref.whole cc0_stg2_0
abbrev bM : Memref sig .tc .smem S1 .f32 := Memref.whole cc0_stg3_0
abbrev oM : Memref sig .tc .vmem S4096x256 .f32 := Memref.whole cc0_stg4_0
abbrev gM : Memref sig .tc .vmem S32x128x4096 .fp8e4m3 := Memref.whole cc0_scratch0
abbrev uM : Memref sig .tc .vmem S4096x256 .bf16 := Memref.whole cc0_scratch1

/-- The offset of slot `o` of the gather buffer. -/
abbrev offS (o : Dev nD) : Fin 3 → ℕ := ![o.val, 0, 0]
theorem inS (o : Dev nD) : ∀ a, offS o a + S1x128x4096.size a ≤ S32x128x4096.size a := fun a => by
  have ho : o.val < 32 := o.isLt
  fin_cases a
  · show o.val + 1 ≤ 32; omega
  · show 0 + 128 ≤ 128; omega
  · show 0 + 4096 ≤ 4096; omega
/-- Slot `o`'s rectangle and elements. -/
abbrev rectS (o : Dev nD) : Rect S32x128x4096 := Rect.unit (s := S32x128x4096) (offS o) S1x128x4096.size (inS o)
/-- Slot `o` as the transfers name it. -/
abbrev slotM (o : Dev nD) : Memref sig .tc .vmem S128x4096 .fp8e4m3 := blkAt gM (offS o) (inS o)

/-- One block's credit. -/
abbrev N : ℕ := (slotM 0).view.dmaCredit
theorem N_pos : 0 < N := View.dmaCredit_pos _ (by decide)
theorem credit_slot (o : Dev nD) : (slotM o).view.dmaCredit = N := rfl

theorem set_slot (o : Dev nD) : (slotM o).view.set = (rectS o).set :=
  (View.set_reshape (v := (gM.slice (rectS o) (fun _ => rfl)).view) _).trans (View.set_slice_whole cc0_scratch0 (rectS o))

theorem slots_disjoint (o o' : Dev nD) (h : o ≠ o') : Disjoint (rectS o).set (rectS o').set :=
  Idealize.ShloMosaic.Ring.lead_disjoint (s := S32x128x4096) (NB := 32) (0 : Fin 3) 1 offS S1x128x4096.size inS
    (fun b => (Nat.one_mul _).symm) rfl o o' h
theorem slots_cover : Finset.univ.biUnion (fun o : Dev nD => (rectS o).set) = Finset.univ :=
  Idealize.ShloMosaic.Ring.lead_cover (s := S32x128x4096) (NB := 32) (0 : Fin 3) 1 offS S1x128x4096.size inS
    (fun b => (Nat.one_mul _).symm) (fun b a ha => by fin_cases a <;> first | exact absurd rfl ha | rfl) rfl
    (fun a ha => by fin_cases a <;> first | exact absurd rfl ha | rfl) rfl

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- Device `c`'s operands as staged. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def astg (c : Dev nD) : (cc0_stg2_0 : Ref sig .tc).ty.Contents (Elt F) :=
  (win0_2.blk (0 : Fin 1)).view.read (Elt F) ((s₀ m ρ).mem ((c : Thread nD τ).loc main_arg2))
def bstg (c : Dev nD) : (cc0_stg3_0 : Ref sig .tc).ty.Contents (Elt F) :=
  (win0_3.blk (0 : Fin 1)).view.read (Elt F) ((s₀ m ρ).mem ((c : Thread nD τ).loc main_arg3))

/-- The block device `o` puts in its slot. -/
def blockOf (o : Dev nD) : FVec F S1x128x4096 .fp8e4m3 := k0_pay1 (xstg m ρ o)

set_option backward.proofsInPublic true in
/-- The gathered contents: slot `o` holds device `o`'s block, on every device. -/
def gat : (cc0_scratch0 : Ref sig .tc).ty.Contents (Elt F) := fun i =>
  blockOf m ρ (i (0 : Fin 3)) (Fin.cons (0 : Fin 1) (Fin.cons (i (1 : Fin 3)) (Fin.cons (i (2 : Fin 3)) finZeroElim)))

/-- Position `z` of a block lies, in slot `o`, at `(o, z 1, z 2)`. -/
theorem gat_emb (o : Dev nD) (z : S1x128x4096.Idx) : gat m ρ ((rectS o).emb z) = blockOf m ρ o z := by
  have h0 : (rectS o).emb z (0 : Fin 3) = o := Fin.ext (by
    show o.val + 1 * (z (0 : Fin 3)).val = o.val
    have : (z (0 : Fin 3)).val < 1 := (z (0 : Fin 3)).isLt
    omega)
  unfold gat
  rw [h0]
  refine congrArg (blockOf m ρ o) (funext fun a => ?_)
  fin_cases a
  · exact Fin.ext (by have : (z (0 : Fin 3)).val < 1 := (z (0 : Fin 3)).isLt; show 0 = (z (0 : Fin 3)).val; omega)
  · exact Fin.ext (by show 0 + 1 * (z (1 : Fin 3)).val = (z (1 : Fin 3)).val; omega)
  · exact Fin.ext (by show 0 + 1 * (z (2 : Fin 3)).val = (z (2 : Fin 3)).val; omega)

/-- A block read from its slot; -/
theorem read_gat (o : Dev nD) : (gM : Memref sig .tc .vmem S32x128x4096 .fp8e4m3).view.readAt (Elt F) (rectS o).toLoadRect (gat m ρ) = blockOf m ρ o :=
  funext fun z => gat_emb m ρ o z
/-- the block stored into its slot; -/
theorem store_gat (o : Dev nD) (f : (cc0_scratch0 : Ref sig .tc).ty.Contents (Elt F)) (i) (hi : i ∈ (rectS o).set) :
    ((gM : Memref sig .tc .vmem S32x128x4096 .fp8e4m3).access (rectS o) : View sig .tc _ _ _).write (Elt F) f (blockOf m ρ o) Finset.univ i = gat m ρ i := by
  rw [← Rect.map_emb_univ] at hi
  obtain ⟨z, -, rfl⟩ := Finset.mem_map.mp hi
  rw [gat_emb]
  exact View.write_emb_of_mem (Val := Elt F) (v := ((gM : Memref sig .tc .vmem S32x128x4096 .fp8e4m3).access (rectS o) : View sig .tc _ _ _)) f _ (Finset.mem_univ z)
omit [FloatOps F] in
/-- and a slot copied onto itself elsewhere holds what it held. -/
theorem copy_slot (o : Dev nD) (fd f : (cc0_scratch0 : Ref sig .tc).ty.Contents (Elt F)) (i) (hi : i ∈ (slotM o).view.set) :
    (slotM o).view.write (Elt F) fd ((slotM o).view.read (Elt F) f) Finset.univ i = f i := by
  obtain ⟨z, -, rfl⟩ := Finset.mem_map.mp hi
  rw [View.write_emb_of_mem _ _ (Finset.mem_univ z)]; rfl

/-- Slot `o` of device `c`'s gather buffer, held at share `q` and contents `f`. -/
def slotPts (c o : Dev nD) (q : PosShare TreeShare) (f : (cc0_scratch0 : Ref sig .tc).ty.Contents (Elt F)) : sProp 𝕄 :=
  (slotM o).view.loc (c : Thread nD τ) ↦[(slotM o).view.set]{q} f

omit [FloatOps F] in
instance slotPts_storable (c o : Dev nD) (q) (f) : BI.Storable (upEmb : UEmb _ 𝕄) (slotPts (F := F) c o q f) := by unfold slotPts; infer_instance

omit [FloatOps F] in
theorem slotPts_eq (c o : Dev nD) (q) (f) : slotPts (F := F) c o q f = (((c : Thread nD τ).loc cc0_scratch0) ↦[(rectS o).set]{q} f : sProp 𝕄) := by
  unfold slotPts; rw [set_slot]
omit [FloatOps F] in
theorem slotPts_congr (c o : Dev nD) (q) {f g} (h : ∀ i ∈ (slotM o).view.set, f i = g i) : slotPts (F := F) c o q f = slotPts c o q g := by
  unfold slotPts; exact pointsTo_congr h
omit [FloatOps F] in
/-- A slot held whole is held in the three shares: lent to the right, lent to the left, kept for reading. -/
theorem slotPts_three (c o : Dev nD) (f) : slotPts (F := F) c o fullShare f
    = iprop(slotPts c o fullShare.left f ∗ slotPts c o fullShare.right.left f ∗ slotPts c o fullShare.right.right f) := by
  unfold slotPts
  rw [BI.Entails.antisymm (pointsTo_share (PosShare.mem_left_op_right fullShare)).1 (pointsTo_share (PosShare.mem_left_op_right fullShare)).2,
    BI.Entails.antisymm (pointsTo_share (PosShare.mem_left_op_right fullShare.right)).1 (pointsTo_share (PosShare.mem_left_op_right fullShare.right)).2]
omit [FloatOps F] in
/-- The gather buffer held whole is held slot by slot. -/
theorem slots_split (c : Dev nD) (q) (f) : (((c : Thread nD τ).loc cc0_scratch0) ↦{q} f : sProp 𝕄)
    = bigSep Finset.univ fun k : Fin 32 => slotPts (F := F) c (ab c k) q f := by
  rw [Idealize.ShloMosaic.Ring.pointsTo_blocks (B := Dev nD) (ℓ := (c : Thread nD τ).loc cc0_scratch0) (fun o : Dev nD => (rectS o).set) slots_disjoint slots_cover f,
    bigSep_univ_equiv (Equiv.ofBijective (ab c) (ab_bijective c))]
  exact bigSep_congr fun k _ => (slotPts_eq c (ab c k) q f).symm

/-! ## The schedule -/

/-- The share a transfer borrows of the slot it carries. -/
def shr (j : J) : PosShare TreeShare := if j.val < 16 then fullShare.left else fullShare.right.left

/-- A slot of the neighbour that a transfer of `c` will fill, at any contents. -/
def land (c : Dev nD) (j : J) : sProp 𝕄 := iprop(∃ f, slotPts (F := F) (tgt c j) (ab c (lent j)) fullShare f)
/-- What a neighbour hands over at the barrier: its slots that the transfers towards it fill. -/
def barPay (c : Dev nD) (d : Bool) : sProp 𝕄 := bigSep (Finset.univ.filter fun j : J => toR j = d) (land (F := F) c)
/-- What a landing hands over: the slot, holding the block it is named after. -/
def rcvPay (c : Dev nD) (j : J) : sProp 𝕄 := slotPts c (ab c (got j)) fullShare (gat m ρ)
/-- What a finished send hands back: the borrowed share. -/
def sndPay (c : Dev nD) (j : J) : sProp 𝕄 := slotPts c (ab c (lent j)) (shr j) (gat m ρ)

omit [FloatOps F] in
instance land_storable (c : Dev nD) (j : J) : BI.Storable (upEmb : UEmb _ 𝕄) (land (F := F) c j) := by unfold land; infer_instance
omit [FloatOps F] in
instance barPay_storable (c : Dev nD) (d : Bool) : BI.Storable (upEmb : UEmb _ 𝕄) (barPay (F := F) c d) := by unfold barPay; infer_instance
instance rcvPay_storable (c : Dev nD) (j : J) : BI.Storable (upEmb : UEmb _ 𝕄) (rcvPay m ρ c j) := by unfold rcvPay; infer_instance
instance sndPay_storable (c : Dev nD) (j : J) : BI.Storable (upEmb : UEmb _ 𝕄) (sndPay m ρ c j) := by unfold sndPay; infer_instance

/-- The payments due at a cell. -/
def dutiesOf : Option Cel → Finset Bool
  | none => ∅
  | some none => Finset.univ
  | some (some _) => {false}
/-- The size of each. -/
def amountOf : Option Cel → ℕ
  | some none => 1
  | _ => N
/-- What each hands over. -/
def payOf (c : Dev nD) : Option Cel → Bool → sProp 𝕄
  | none, _ => iprop(emp)
  | some none, d => barPay (F := F) c d
  | some (some (.inl j)), _ => sndPay m ρ c j
  | some (some (.inr j)), _ => rcvPay m ρ c j

/-- One round at every cell. -/
def rd : Rounds.Schedule (GSem nD τ sig) Bool 𝕄 where
  duties g r := if r = 0 ∧ g.1.2 = .tc then dutiesOf (role g.2) else ∅
  unitless _ := False
  amount g _ _ := amountOf (role g.2)
  payload g _ d := payOf m ρ g.1.1 (role g.2) d
  amount_pos g _ _ _ := by
    show 0 < amountOf (role g.2)
    unfold amountOf; split
    · exact Nat.one_pos
    · exact N_pos

instance rd_storable (g : GSem nD τ sig) (r : ℕ) (d : Bool) : BI.Storable (upEmb : UEmb _ 𝕄) ((rd (F := F) m ρ).payload g r d) := by
  show BI.Storable upEmb (payOf m ρ g.1.1 (role g.2) d)
  unfold payOf; split <;> infer_instance

section Sched
variable (c : Dev nD) (j : J)

theorem duties_bar : (rd (F := F) m ρ).duties (barCell c) 0 = Finset.univ := by
  dsimp only [rd]; rw [if_pos ⟨rfl, rfl⟩, role_bar]; rfl
theorem duties_snd : (rd (F := F) m ρ).duties (sndCell c j) 0 = {false} := by
  dsimp only [rd]; rw [if_pos ⟨rfl, rfl⟩, role_snd]; rfl
theorem duties_rcv : (rd (F := F) m ρ).duties (rcvCell c j) 0 = {false} := by
  dsimp only [rd]; rw [if_pos ⟨rfl, rfl⟩, role_rcv]; rfl
theorem duties_later (g : GSem nD τ sig) : ∀ r, 1 ≤ r → (rd (F := F) m ρ).duties g r = ∅ :=
  fun r hr => by dsimp only [rd]; rw [if_neg fun h => by omega]
theorem amount_bar (d : Bool) : (rd (F := F) m ρ).amount (barCell c) 0 d = 1 := by dsimp only [rd]; rw [role_bar]; rfl
theorem amount_snd (d : Bool) : (rd (F := F) m ρ).amount (sndCell c j) 0 d = N := by dsimp only [rd]; rw [role_snd]; rfl
theorem amount_rcv (d : Bool) : (rd (F := F) m ρ).amount (rcvCell c j) 0 d = N := by dsimp only [rd]; rw [role_rcv]; rfl
theorem expect_bar : (rd (F := F) m ρ).expect (barCell c) 0 = 2 := by
  unfold Schedule.expect Schedule.amountOf
  rw [duties_bar, Finset.sum_congr rfl fun d _ => amount_bar m ρ c d]; rfl
theorem expect_snd : (rd (F := F) m ρ).expect (sndCell c j) 0 = N := by
  unfold Schedule.expect Schedule.amountOf; rw [duties_snd, Finset.sum_singleton, amount_snd]
theorem expect_rcv : (rd (F := F) m ρ).expect (rcvCell c j) 0 = N := by
  unfold Schedule.expect Schedule.amountOf; rw [duties_rcv, Finset.sum_singleton, amount_rcv]
theorem payload_bar (d : Bool) : (rd (F := F) m ρ).payload (barCell c) 0 d = barPay c d := by dsimp only [rd]; rw [role_bar]; rfl
theorem payload_snd (d : Bool) : (rd (F := F) m ρ).payload (sndCell c j) 0 d = sndPay m ρ c j := by dsimp only [rd]; rw [role_snd]; rfl
theorem payload_rcv (d : Bool) : (rd (F := F) m ρ).payload (rcvCell c j) 0 d = rcvPay m ρ c j := by dsimp only [rd]; rw [role_rcv]; rfl

/-- What the whole round of a cell hands its waiter: at the barrier, every slot the device's transfers will fill; -/
theorem rest_bar : bigSep ((rd (F := F) m ρ).duties (barCell c) 0 \ ∅) (fun d => (rd (F := F) m ρ).payload (barCell c) 0 d)
    = bigSep Finset.univ (land (F := F) c) := by
  rw [Finset.sdiff_empty, duties_bar, bigSep_univ_eq_bigSepL [true, false] (by decide) (by decide), bigSepL_cons_cons, bigSepL_singleton,
    payload_bar, payload_bar]
  unfold barPay
  rw [show (Finset.univ : Finset J) = (Finset.univ.filter fun j : J => toR j = true) ∪ Finset.univ.filter fun j : J => toR j = false from by decide +kernel,
    bigSep_union (by decide +kernel)]
  rfl
theorem rest_snd : bigSep ((rd (F := F) m ρ).duties (sndCell c j) 0 \ ∅) (fun d => (rd (F := F) m ρ).payload (sndCell c j) 0 d) = sndPay m ρ c j := by
  rw [Finset.sdiff_empty, duties_snd, bigSep_singleton, payload_snd]
theorem rest_rcv : bigSep ((rd (F := F) m ρ).duties (rcvCell c j) 0 \ ∅) (fun d => (rd (F := F) m ρ).payload (rcvCell c j) 0 d) = rcvPay m ρ c j := by
  rw [Finset.sdiff_empty, duties_rcv, bigSep_singleton, payload_rcv]

end Sched

/-! ## What a device owes, and the order of the waits -/

/-- The landings still owed when the transfers in `T` are still to start. -/
def owed (c : Dev nD) (T : Finset J) : CellTallies nD τ sig Unit := ∑ j ∈ T, tallyAt (rcvCell (tgt c j) j) () N
/-- With the right-hand neighbour's barrier unit; -/
def O₁ (c : Dev nD) : CellTallies nD τ sig Unit := owed c Finset.univ + tallyAt (barCell (nxt c)) () 1
/-- with both neighbours' units: what a device owes at launch. -/
def O₀ (c : Dev nD) : CellTallies nD τ sig Unit := O₁ c + tallyAt (barCell (prv c)) () 1

theorem owed_empty (c : Dev nD) : owed c ∅ = 0 := Finset.sum_empty
theorem owed_erase (c : Dev nD) {T : Finset J} {j : J} (h : j ∈ T) : owed c T = owed c (T.erase j) + tallyAt (rcvCell (tgt c j) j) () N :=
  (Finset.sum_erase_add T _ h).symm

def L (g : GSem nD τ sig) : Finset Unit := if g.1.2 = .tc then {()} else ∅
/-- The rank of a cell: staging and sends lowest, the barrier next, the receives by hop. -/
def lv (g : GSem nD τ sig) (_ : Unit) : ℕ := match role g.2 with
  | some none => 1
  | some (some (.inr j)) => 2 + hop j
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]
theorem lv_rcv (c : Dev nD) (j : J) : lv (rcvCell c j) () = 2 + hop j := by unfold lv; rw [role_rcv]

theorem owed_pos {c : Dev nD} {T : Finset J} {g : GSem nD τ sig} {u : Unit} (h : 0 < owed c T g u) : ∃ j ∈ T, g = rcvCell (tgt c j) j := by
  unfold owed at h
  rw [Finset.sum_apply, Finsupp.finset_sum_apply] at h
  obtain ⟨j, hj, hp⟩ := Finset.exists_ne_zero_of_sum_ne_zero (Nat.pos_iff_ne_zero.mp h)
  refine ⟨j, hj, ?_⟩
  rw [tallyAt_apply] at hp
  by_contra hn
  rw [if_neg (fun h' => hn h'.1)] at hp
  exact hp rfl

theorem O₀_pos {c : Dev nD} {g : GSem nD τ sig} {u : Unit} (h : 0 < O₀ c g u) :
    (∃ j, g = rcvCell (tgt c j) j) ∨ g = barCell (nxt c) ∨ g = barCell (prv c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), Nat.add_zero] at h
  obtain ⟨j, -, hj⟩ := owed_pos h
  exact hn.1 ⟨j, hj⟩

/-- A wait on a cell ranked below every receive still owed. -/
theorem mayWait_owed (c : Dev nD) (T : Finset J) (sm : SemLoc sig) (n : ℕ) (hn : lv ((c : Thread nD τ), sm) () ≤ n) (h : ∀ j ∈ T, n < 2 + hop j) :
    (levAts L lv : sProp 𝕄) ⊢ MayWait (c : Thread nD τ) sm () (owed c T) :=
  MayOwe.of_cut (L := L) (lev := lv) n (fun p hp => by rw [Finset.mem_singleton.mp hp, L_tc]; exact Finset.mem_singleton_self _)
    (fun g u hg => by obtain ⟨j, -, rfl⟩ := owed_pos hg; rw [L_tc]; exact Finset.mem_singleton_self _)
    (fun p hp => by rw [Finset.mem_singleton.mp hp]; exact hn)
    (fun g u hg => by obtain ⟨j, hj, rfl⟩ := owed_pos hg; rw [lv_rcv]; exact h j hj)

/-- The staging waits come before everything. -/
theorem mayWait_stage (c : Dev nD) (q : DmaSem sig) (hq : role (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl | rfl <;> (rw [L_tc]; exact Finset.mem_singleton_self _))
      (fun p hp => by rw [Finset.mem_singleton.mp hp]; unfold lv; rw [hq])
      (fun g u hg => by
        rcases O₀_pos hg with ⟨j, rfl⟩ | rfl | rfl
        · rw [lv_rcv]; omega
        · rw [lv_bar]; decide
        · rw [lv_bar]; decide)
  · rw [MayWait_zero]; iintro -; iempintro

end Cert.KernelIdeal.Ring

end
-- ==== Proof.KernelIdeal.Steps.lean ====
/- One transfer, one receive, one product, one final wait: what each does to what a device holds. -/
module

public import proofs.«01_k».proof.Proof.KernelIdeal.Protocol
public import proofs.«01_k».proof.Proof.KernelIdeal.Books

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

variable (K : Dev nD × Cel → ℕ)

omit [FloatOps F] in
/-- A big conjunction with one member in front, or with one more member. -/
theorem pull {I : Type} [DecidableEq I] {A : Finset I} {k : I} (Φ : I → sProp 𝕄) (h : k ∈ A) :
    bigSep A Φ = iprop(Φ k ∗ bigSep (A.erase k) Φ) := bigSep_erase h
omit [FloatOps F] in
theorem push {I : Type} [DecidableEq I] {A : Finset I} {k : I} (Φ : I → sProp 𝕄) (h : k ∉ A) :
    bigSep (insert k A) Φ = iprop(Φ k ∗ bigSep A Φ) := bigSep_insert h
omit [FloatOps F] in
theorem pick {I : Type} [DecidableEq I] {A : Finset I} {k : I} (Φ : I → sProp 𝕄) (h : k ∈ A) : bigSep A Φ ⊢ Φ k := bigSep_elim h
omit [FloatOps F] in
theorem each {I : Type} [DecidableEq I] {A : Finset I} {Φ Ψ : I → sProp 𝕄} (h : ∀ i ∈ A, Φ i ⊢ Ψ i) : bigSep A Φ ⊢ bigSep A Ψ := bigSep_mono h

/-- Every cell's invariant and that it has reached round 0. -/
def records : sProp 𝕄 :=
  iprop((bigSep Finset.univ fun x : Dev nD × Cel => cellInv ER (rd m ρ) (K x) (kcell x))
    ∗ bigSep Finset.univ fun x : Dev nD × Cel => reached ER (kcell x) 0)
instance records_persistent : BI.Persistent (records m ρ K) := by unfold records; infer_instance

theorem inv_at (x : Dev nD × Cel) : records m ρ K ⊢ cellInv ER (rd m ρ) (K x) (kcell x) := by
  unfold records
  iintro ⟨#HI, #HR⟩
  iapply (pick (fun x : Dev nD × Cel => cellInv ER (rd m ρ) (K x) (kcell x)) (Finset.mem_univ x)); iexact HI
theorem reached_at (x : Dev nD × Cel) : records m ρ K ⊢ (reached ER (kcell x) 0 : sProp 𝕄) := by
  unfold records
  iintro ⟨#HI, #HR⟩
  iapply (pick (fun x : Dev nD × Cel => (reached ER (kcell x) 0 : sProp 𝕄)) (Finset.mem_univ x)); iexact HR

/-- What starting transfer `j` takes: the right to pay the two cells, and the slot it fills. -/
def sendTok (c : Dev nD) (j : J) : sProp 𝕄 :=
  iprop(dutyTok ER (sndCell c j) 0 false ∗ dutyTok ER (rcvCell (tgt c j) j) 0 false ∗ land (F := F) c j)
/-- What waiting for receive `j` takes. -/
def recvTok (c : Dev nD) (j : J) : sProp 𝕄 := iprop(atPos ER (rcvCell c j) 0 ∅ 0 ∗ cred (tallyAt (rcvCell c j) () N))
/-- A share of a slot of the gathered contents. -/
abbrev piece (c : Dev nD) (q : PosShare TreeShare) (k : Fin 32) : sProp 𝕄 := slotPts c (ab c k) q (gat m ρ)

/-- The shares at home. -/
def shares (c : Dev nD) (A B G : Finset (Fin 32)) : sProp 𝕄 :=
  iprop(bigSep A (piece m ρ c fullShare.left) ∗ bigSep B (piece m ρ c fullShare.right.left) ∗ bigSep G (piece m ρ c fullShare.right.right))

/-- A device's part of the exchange, its holdings as in `b`. -/
def exch (c : Dev nD) (b : Book) : sProp 𝕄 :=
  iprop((records m ρ K ∗ levAts L lv) ∗ (∃ W, owes (c : Thread nD τ) (owed c b.T) W)
    ∗ bigSep b.T (sendTok (F := F) c) ∗ bigSep b.E (fun j => cred (tallyAt (sndCell c j) () N))
    ∗ bigSep b.S (fun j => atPos ER (sndCell c j) 0 ∅ 0) ∗ bigSep b.Sᶜ (fun j => semVal (sndCell c j) 0)
    ∗ bigSep b.R (recvTok (F := F) c) ∗ bigSep b.Rᶜ (fun j => semVal (rcvCell c j) 0)
    ∗ shares m ρ c b.A b.B b.G)

/-- The share a transfer borrows, set apart; -/
theorem take_share (c : Dev nD) (j : J) (A B G : Finset (Fin 32)) (h : lent j ∈ (if j.val < 16 then A else B)) :
    shares m ρ c A B G ⊢ iprop(sndPay m ρ c j
      ∗ shares m ρ c (if j.val < 16 then A.erase (lent j) else A) (if j.val < 16 then B else B.erase (lent j)) G) := by
  unfold shares sndPay shr
  by_cases hj : j.val < 16
  · simp only [if_pos hj] at h ⊢
    rw [pull (piece m ρ c fullShare.left) h]
    iintro ⟨⟨H, HA⟩, HB, HG⟩
    isplitl [H]; · iexact H
    isplitl [HA]; · iexact HA
    isplitl [HB] <;> iassumption
  · simp only [if_neg hj] at h ⊢
    rw [pull (piece m ρ c fullShare.right.left) h]
    iintro ⟨HA, ⟨H, HB⟩, HG⟩
    isplitl [H]; · iexact H
    isplitl [HA]; · iexact HA
    isplitl [HB] <;> iassumption

/-- and put back. -/
theorem give_share (c : Dev nD) (j : J) (A B G : Finset (Fin 32)) (h : lent j ∉ (if j.val < 16 then A else B)) :
    iprop(sndPay m ρ c j ∗ shares m ρ c A B G)
      ⊢ shares m ρ c (if j.val < 16 then insert (lent j) A else A) (if j.val < 16 then B else insert (lent j) B) G := by
  unfold shares sndPay shr
  by_cases hj : j.val < 16
  · simp only [if_pos hj] at h ⊢
    rw [push _ h]
    iintro ⟨H, HA, HB, HG⟩
    isplitl [H HA]
    · isplitl [H]; · iexact H
      iexact HA
    isplitl [HB] <;> iassumption
  · simp only [if_neg hj] at h ⊢
    rw [push _ h]
    iintro ⟨H, HA, HB, HG⟩
    isplitl [HA]; · iexact HA
    isplitl [H HB]
    · isplitl [H]; · iexact H
      iexact HB
    iexact HG

/-- A slot at home whole is its three shares at home. -/
theorem whole_share (c : Dev nD) (k : Fin 32) (A B G : Finset (Fin 32)) (hA : k ∉ A) (hB : k ∉ B) (hG : k ∉ G) :
    iprop(slotPts c (ab c k) fullShare (gat m ρ) ∗ shares m ρ c A B G) ⊢ shares m ρ c (insert k A) (insert k B) (insert k G) := by
  unfold shares
  rw [slotPts_three, push _ hA, push _ hB, push _ hG]
  iintro ⟨⟨H1, H2, H3⟩, HA, HB, HG⟩
  isplitl [H1 HA]
  · isplitl [H1]; · iexact H1
    iexact HA
  isplitl [H2 HB]
  · isplitl [H2]; · iexact H2
    iexact HB
  isplitl [H3]; · iexact H3
  iexact HG

/-- The rule of a transfer at slot `o` to device `n`, which owns that slot there. -/
theorem wp_slot (c : Dev nD) (j : J) (o : Dev nD) (hoj : ab (tgt c j) (got j) = o) (hsnd : ab c (lent j) = o) (T : Finset J) (hT : j ∈ T)
    (hin) (hw) (hg : (gM : Memref sig .tc .vmem S32x128x4096 .fp8e4m3).IsWhole) {Q : PUnit → sProp 𝕄}
    (f : Buf (Elt F) ((slotM o).view.loc (tgt c j : Thread nD τ))) (W : Waits sig Unit) :
    iprop(cellInv ER (rd m ρ) (K (c, some (.inl j))) (sndCell c j) ∗ cellInv ER (rd m ρ) (K (tgt c j, some (.inr j))) (rcvCell (tgt c j) j)
        ∗ slotPts c o (shr j) (gat m ρ) ∗ slotPts (tgt c j) o fullShare f ∗ owes (c : Thread nD τ) (owed c T) W
        ∗ dutyTok ER (sndCell c j) 0 false ∗ reached ER (sndCell c j) 0
        ∗ dutyTok ER (rcvCell (tgt c j) j) 0 false ∗ reached ER (rcvCell (tgt c j) j) 0)
      ⊢ iprop(((cred (tallyAt (sndCell c j) () N) ∗ owes (c : Thread nD τ) (owed c (T.erase j)) W)
            -∗ wp frame (wpE (defs₀ (F := F)) 𝒱₀ (c : Thread nD τ) none) Set.univ (Prog.ret ⟨⟩) Q)
          -∗ wp frame (wpE (defs₀ (F := F)) 𝒱₀ (c : Thread nD τ) none) Set.univ
              (sendP gM hg (tgt c j) (sndS j) (rcvS j) (offS o) hin hw) Q) := by
  unfold slotPts
  exact Rounds.wp_send_pointsTo 𝒱₀ ER (rd m ρ) (c : Thread nD τ) none (κ₁ := K (c, some (.inl j))) (κ₂ := K (tgt c j, some (.inr j)))
    (r₁ := 0) (r₂ := 0) (d₁ := false) (d₂ := false) (fd := f)
    (by rw [duties_snd]; exact Finset.mem_singleton_self _) (by rw [duties_rcv]; exact Finset.mem_singleton_self _)
    () () N rfl (amount_snd m ρ c j false) (amount_rcv m ρ (tgt c j) j false) (owed c (T.erase j)) (owed_erase c hT) (W := W)
    (by rw [payload_snd]; unfold sndPay slotPts; rw [hsnd])
    (by rw [payload_rcv]; unfold rcvPay; rw [hoj]
        exact Entails.of_eq (slotPts_congr (tgt c j) o fullShare (copy_slot o f (gat m ρ))))

/-- Transfer `j`, whatever way the program names its target, its semaphores and its slot. -/
theorem wp_sendP (c : Dev nD) (b : Book) (j : J) (hT : j ∈ b.T) (hE : j ∉ b.E) (hl : lent j ∈ (if j.val < 16 then b.A else b.B))
    (n : Dev nD) (hn : n = tgt c j) (sS sR : DmaSem sig) (hS : sS = sndS j) (hR : sR = rcvS j)
    (off : Fin 3 → ℕ) (ho : off = offS (ab c (lent j))) (hin) (hw) (hg) :
    exch m ρ K c b ⊢ wp frame (wpE (defs₀ (F := F)) 𝒱₀ (c : Thread nD τ) none) Set.univ (sendP gM hg n sS sR off hin hw)
      (fun _ => exch m ρ K c (b.send j)) := by
  subst hn; subst hS; subst hR; subst ho
  unfold exch Book.send
  dsimp only
  rw [pull (sendTok (F := F) c) hT, push (fun j => (cred (tallyAt (sndCell c j) () N) : sProp 𝕄)) hE]
  iintro ⟨⟨#Hrec, #Hlev⟩, ⟨%W, HO⟩, ⟨Ht, HT⟩, HE, HS, HS', HR, HR', Hsh⟩
  unfold sendTok land
  icases Ht with ⟨HtS, HtR, ⟨%f, Hland⟩⟩
  ihave Hs := (take_share m ρ c j b.A b.B b.G hl) $$ Hsh
  icases Hs with ⟨Hsrc, Hsh⟩
  unfold sndPay
  iapply (wp_slot m ρ K c j (ab c (lent j)) (ab_tgt_got c j) rfl b.T hT hin hw hg f W) $$ [Hsrc Hland HO HtS HtR]
  · isplitr; · iapply (inv_at m ρ K (c, some (.inl j))); iexact Hrec
    isplitr; · iapply (inv_at m ρ K (tgt c j, some (.inr j))); iexact Hrec
    isplitl [Hsrc]; · iexact Hsrc
    isplitl [Hland]; · iexact Hland
    isplitl [HO]; · iexact HO
    isplitl [HtS]; · iexact HtS
    isplitr; · iapply (reached_at m ρ K (c, some (.inl j))); iexact Hrec
    isplitl [HtR]; · iexact HtR
    iapply (reached_at m ρ K (tgt c j, some (.inr j))); iexact Hrec
  iintro ⟨Hc, HO⟩
  rw [wp_ret]; imodintro
  isplitr
  · isplitr; · iexact Hrec
    iexact Hlev
  isplitl [HO]; · iexists W; iexact HO
  isplitl [HT]; · iexact HT
  isplitl [Hc HE]
  · isplitl [Hc]; · iexact Hc
    iexact HE
  isplitl [HS]; · iexact HS
  isplitl [HS']; · iexact HS'
  isplitl [HR]; · iexact HR
  isplitl [HR']; · iexact HR'
  iexact Hsh

/-- The wait for receive `j`: every receive still owed is ranked higher. -/
theorem wp_recvP (c : Dev nD) (b : Book) (j : J) (hR : j ∈ b.R) (hlt : ∀ j' ∈ b.T, hop j < hop j')
    (hA : got j ∉ b.A) (hB : got j ∉ b.B) (hG : got j ∉ b.G)
    (s : DmaSem sig) (hs : s = rcvS j) (off : Fin 3 → ℕ) (hin) (hw) (hg) :
    exch m ρ K c b ⊢ wp frame (wpE (defs₀ (F := F)) 𝒱₀ (c : Thread nD τ) none) Set.univ (waitP gM hg s off hin hw)
      (fun _ => exch m ρ K c (b.recv j)) := by
  subst hs
  unfold exch Book.recv
  dsimp only
  rw [pull (recvTok (F := F) c) hR, Finset.compl_erase,
    push (fun j => (semVal (rcvCell c j) 0 : sProp 𝕄)) (fun h => (Finset.mem_compl.mp h) hR)]
  iintro ⟨⟨#Hrec, #Hlev⟩, ⟨%W, HO⟩, HT, HE, HS, HS', ⟨Ht, HR⟩, HR', Hsh⟩
  unfold recvTok
  icases Ht with ⟨Hat, Hc⟩
  iapply (Rounds.wp_wait_rest_token 𝒱₀ ER (rd m ρ) (c : Thread nD τ) none (κ := K (c, some (.inr j)))
      (wpE_waitDma2_eq 𝒱₀ (c : Thread nD τ) none Set.univ) (Set.mem_univ _) () (O := owed c b.T) (W := W) (R := 0) (m := 0) (T := ∅)
      (by rw [Nat.zero_add, expect_rcv])) $$ [Hc HO Hat]
  · isplitr; · iapply (inv_at m ρ K (c, some (.inr j))); iexact Hrec
    isplitl [Hc]; · iexact Hc
    isplitl [HO]; · iexact HO
    isplitr
    · iapply (mayWait_owed c b.T (.dma (rcvS j)) (2 + hop j) (le_of_eq (lv_rcv c j)) (fun j' hj' => Nat.add_lt_add_left (hlt j' hj') 2)); iexact Hlev
    iexact Hat
  iintro ⟨HO, Hat, -, Hpay⟩
  ihave Hp := (Entails.of_eq (rest_rcv m ρ c j)) $$ Hpay
  imod (Rounds.cell_close ER (rd m ρ) (Set.mem_univ (K (c, some (.inr j)))) (fun h => h) (R := 0 + 1) (duties_later m ρ (rcvCell c j))) $$ [Hat] with Hz
  · isplitr; · iapply (inv_at m ρ K (c, some (.inr j))); iexact Hrec
    iexact Hat
  rw [wp_ret]; imodintro
  isplitr
  · isplitr; · iexact Hrec
    iexact Hlev
  isplitl [HO]; · iexists _; iexact HO
  isplitl [HT]; · iexact HT
  isplitl [HE]; · iexact HE
  isplitl [HS]; · iexact HS
  isplitl [HS']; · iexact HS'
  isplitl [HR]; · iexact HR
  isplitl [Hz HR']
  · isplitl [Hz]; · iexact Hz
    iexact HR'
  iapply (whole_share m ρ c (got j) b.A b.B b.G hA hB hG)
  isplitl [Hp]; · unfold rcvPay; iexact Hp
  iexact Hsh

/-- The wait for the end of transfer `j`, nothing being owed any more. -/
theorem wp_drainP (c : Dev nD) (b : Book) (j : J) (hE : j ∈ b.E) (hS : j ∈ b.S) (hT : b.T = ∅)
    (hl : lent j ∉ (if j.val < 16 then b.A else b.B))
    (s : DmaSem sig) (hs : s = sndS j) (off : Fin 3 → ℕ) (hin) (hw) (hg) :
    exch m ρ K c b ⊢ wp frame (wpE (defs₀ (F := F)) 𝒱₀ (c : Thread nD τ) none) Set.univ (waitP gM hg s off hin hw)
      (fun _ => exch m ρ K c (b.drain j)) := by
  subst hs
  unfold exch Book.drain
  dsimp only
  rw [pull (fun j => (cred (tallyAt (sndCell c j) () N) : sProp 𝕄)) hE,
    pull (fun j => (atPos ER (sndCell c j) 0 ∅ 0 : sProp 𝕄)) hS, Finset.compl_erase,
    push (fun j => (semVal (sndCell c j) 0 : sProp 𝕄)) (fun h => (Finset.mem_compl.mp h) hS), hT, owed_empty]
  iintro ⟨⟨#Hrec, #Hlev⟩, ⟨%W, HO⟩, HT, ⟨Hc, HE⟩, ⟨Hat, HS⟩, HS', HR, HR', Hsh⟩
  iapply (Rounds.wp_wait_rest_token 𝒱₀ ER (rd m ρ) (c : Thread nD τ) none (κ := K (c, some (.inl j)))
      (wpE_waitDma2_eq 𝒱₀ (c : Thread nD τ) none Set.univ) (Set.mem_univ _) () (O := 0) (W := W) (R := 0) (m := 0) (T := ∅)
      (by rw [Nat.zero_add, expect_snd])) $$ [Hc HO Hat]
  · isplitr; · iapply (inv_at m ρ K (c, some (.inl j))); iexact Hrec
    isplitl [Hc]; · iexact Hc
    isplitl [HO]; · iexact HO
    isplitr; · rw [MayWait_zero]; iempintro
    iexact Hat
  iintro ⟨HO, Hat, -, Hpay⟩
  ihave Hp := (Entails.of_eq (rest_snd m ρ c j)) $$ Hpay
  imod (Rounds.cell_close ER (rd m ρ) (Set.mem_univ (K (c, some (.inl j)))) (fun h => h) (R := 0 + 1) (duties_later m ρ (sndCell c j))) $$ [Hat] with Hz
  · isplitr; · iapply (inv_at m ρ K (c, some (.inl j))); iexact Hrec
    iexact Hat
  rw [wp_ret]; imodintro
  isplitr
  · isplitr; · iexact Hrec
    iexact Hlev
  isplitl [HO]; · iexists _; iexact HO
  isplitl [HT]; · iexact HT
  isplitl [HE]; · iexact HE
  isplitl [HS]; · iexact HS
  isplitl [Hz HS']
  · isplitl [Hz]; · iexact Hz
    iexact HS'
  isplitl [HR]; · iexact HR
  isplitl [HR']; · iexact HR'
  iapply (give_share m ρ c j b.A b.B b.G hl)
  isplitl [Hp]; · iexact Hp
  iexact Hsh

end Cert.KernelIdeal.Ring

end
-- ==== Proof.KernelIdeal.Work.lean ====
/- What a device computes: the contents its result is to have, and what the parts of the program that compute — the
   opening, the scales and weights, one block's product — do to what the device holds. -/
module

public import proofs.«01_k».proof.Proof.KernelIdeal.Steps

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents of the result -/

/-- The one position of a scalar. -/
abbrev only : S1.Idx := Shape.Idx.first (numel1_S1.symm ▸ Nat.one_pos)
theorem only_eq (i : S1.Idx) : i = only := funext fun a => by fin_cases a; exact Subsingleton.elim (α := Fin 1) _ _
/-- The product of the two scales. -/
def scl (c : Dev nD) : F .f32 := k0_pay2 (astg m ρ c only) (bstg m ρ c only)
/-- The widened weights. -/
def wbf (c : Dev nD) : (cc0_scratch1 : Ref sig .tc).ty.Contents (Elt F) := k0_pay3 (wstg m ρ c)
/-- The product of device `o`'s block with device `c`'s weights. -/
def prodOf (c o : Dev nD) : FVec F S128x256 .f32 := prodAt (scl m ρ c) (blockOf m ρ o) (wbf m ρ c)

set_option backward.proofsInPublic true in
/-- The result of device `c`: rows `128 o` to `128 o + 127` are the product of device `o`'s block. -/
def outT (c : Dev nD) : (cc0_stg4_0 : Ref sig .tc).ty.Contents (Elt F) := fun i =>
  prodOf m ρ c (⟨(i (0 : Fin 2)).val / 128, Nat.div_lt_of_lt_mul (show (i (0 : Fin 2)).val < 128 * 32 from (i (0 : Fin 2)).isLt)⟩ : Dev nD)
    (Fin.cons (⟨(i (0 : Fin 2)).val % 128, Nat.mod_lt _ (by decide)⟩ : Fin 128) (Fin.cons (i (1 : Fin 2)) finZeroElim))

/-- The rows of the result that block `o` fills. -/
abbrev offO (o : Dev nD) : Fin 2 → ℕ := ![128 * o.val, 0]
theorem inO (o : Dev nD) : ∀ a, offO o a + S128x256.size a ≤ S4096x256.size a := fun a => by
  have ho : o.val < 32 := o.isLt
  fin_cases a
  · show 128 * o.val + 128 ≤ 4096; omega
  · show 0 + 256 ≤ 256; omega
abbrev rectO (o : Dev nD) : Rect S4096x256 := Rect.unit (s := S4096x256) (offO o) S128x256.size (inO o)

theorem outT_emb (c o : Dev nD) (z : S128x256.Idx) : outT m ρ c ((rectO o).emb z) = prodOf m ρ c o z := by
  have hz : (z (0 : Fin 2)).val < 128 := (z (0 : Fin 2)).isLt
  have h0 : ((rectO o).emb z (0 : Fin 2)).val = 128 * o.val + (z (0 : Fin 2)).val := by
    show 128 * o.val + 1 * (z (0 : Fin 2)).val = _; omega
  unfold outT
  rw [show (⟨((rectO o).emb z (0 : Fin 2)).val / 128, Nat.div_lt_of_lt_mul (show _ < 128 * 32 from ((rectO o).emb z (0 : Fin 2)).isLt)⟩ : Dev nD) = o from
    Fin.ext (by show ((rectO o).emb z (0 : Fin 2)).val / 128 = o.val; rw [h0]; omega)]
  refine congrArg (prodOf m ρ c o) (funext fun a => ?_)
  fin_cases a
  · exact Fin.ext (by show ((rectO o).emb z (0 : Fin 2)).val % 128 = (z (0 : Fin 2)).val; rw [h0]; omega)
  · exact Fin.ext (by show 0 + 1 * (z (1 : Fin 2)).val = (z (1 : Fin 2)).val; omega)

/-- The rows of the blocks in `D` are as they should be. -/
def Done (c : Dev nD) (D : Finset (Fin 32)) (f : (cc0_stg4_0 : Ref sig .tc).ty.Contents (Elt F)) : Prop :=
  ∀ k ∈ D, ∀ i ∈ (rectO (ab c k)).set, f i = outT m ρ c i

theorem Done.full {c : Dev nD} {f} (h : Done m ρ c Finset.univ f) : f = outT m ρ c := funext fun i => by
  have hi : (i (0 : Fin 2)).val < 128 * 32 := (i (0 : Fin 2)).isLt
  obtain ⟨k, hk⟩ := (ab_bijective c).2 (⟨(i (0 : Fin 2)).val / 128, Nat.div_lt_of_lt_mul hi⟩ : Dev nD)
  refine h k (Finset.mem_univ _) i ?_
  rw [hk]
  refine Rect.mem_set_unit.mpr fun a => ?_
  fin_cases a
  · show 128 * ((i (0 : Fin 2)).val / 128) ≤ (i (0 : Fin 2)).val ∧ (i (0 : Fin 2)).val < 128 * ((i (0 : Fin 2)).val / 128) + 128; omega
  · have : (i (1 : Fin 2)).val < 256 := (i (1 : Fin 2)).isLt
    show 0 ≤ (i (1 : Fin 2)).val ∧ (i (1 : Fin 2)).val < 0 + 256; omega

/-- Writing block `k`'s product adds it to the done ones. -/
theorem Done.write {c : Dev nD} {D} {f} (h : Done m ρ c D f) (k : Fin 32) :
    Done m ρ c (insert k D) (((oM : Memref sig .tc .vmem S4096x256 .f32).access (rectO (ab c k)) : View sig .tc _ _ _).write (Elt F) f
      (prodOf m ρ c (ab c k)) Finset.univ) := by
  intro k' hk' i hi
  by_cases hm : i ∈ (rectO (ab c k)).set
  · rw [← Rect.map_emb_univ] at hm
    obtain ⟨z, -, rfl⟩ := Finset.mem_map.mp hm
    rw [outT_emb]
    exact View.write_emb_of_mem (Val := Elt F) (v := ((oM : Memref sig .tc .vmem S4096x256 .f32).access (rectO (ab c k)) : View sig .tc _ _ _)) f _ (Finset.mem_univ z)
  · rw [View.write_of_not_mem _ _ _ (by rw [View.setOn_univ]; show i ∉ ((View.whole cc0_stg4_0).slice (rectO (ab c k))).set; rw [View.set_slice_whole]; exact hm)]
    rcases Finset.mem_insert.mp hk' with rfl | hk'
    · exact absurd hi hm
    · exact h k' hk' i hi

/-! ## Programs in sequence -/

/-- One part of the program after another. -/
theorem andThen {c : Dev nD} {α : Type} {P : Prog (TpuEff nD τ sig (Elt F) Λ₀ .tc) α} {β : Type} {k : α → Prog (TpuEff nD τ sig (Elt F) Λ₀ .tc) β}
    {A : sProp 𝕄} {B : α → sProp 𝕄} {Q : β → sProp 𝕄}
    (h : A ⊢ wp frame (wpE (defs₀ (F := F)) 𝒱₀ (c : Thread nD τ) none) Set.univ P B)
    (h' : ∀ a, B a ⊢ wp frame (wpE (defs₀ (F := F)) 𝒱₀ (c : Thread nD τ) none) Set.univ (k a) Q) :
    A ⊢ wp frame (wpE (defs₀ (F := F)) 𝒱₀ (c : Thread nD τ) none) Set.univ (P >>= k) Q := by
  rw [wp_bind]; exact h.trans (wp_mono _ _ _ h')

/-! ## What a device holds beside the exchange -/

variable (K : Dev nD × Cel → ℕ)

/-- The widened weights in place, the result done at the blocks in `D`. -/
def comp (c : Dev nD) (D : Finset (Fin 32)) : sProp 𝕄 :=
  iprop((((c : Thread nD τ).loc cc0_scratch1) ↦{fullShare} wbf m ρ c)
    ∗ ∃ f : Buf (Elt F) ((c : Thread nD τ).loc cc0_stg4_0), ⌜Done m ρ c D f⌝ ∗ (((c : Thread nD τ).loc cc0_stg4_0) ↦{fullShare} f))

/-- Both parts. -/
def dev (c : Dev nD) (b : Book) : sProp 𝕄 := iprop(exch m ρ K c b ∗ comp m ρ c b.D)

/-- A step of the exchange leaves the computation alone. -/
theorem beside {c : Dev nD} {b b' : Book} {P : Prog (TpuEff nD τ sig (Elt F) Λ₀ .tc) PUnit}
    (h : exch m ρ K c b ⊢ wp frame (wpE (defs₀ (F := F)) 𝒱₀ (c : Thread nD τ) none) Set.univ P (fun _ => exch m ρ K c b'))
    (hD : b'.D = b.D) :
    dev m ρ K c b ⊢ wp frame (wpE (defs₀ (F := F)) 𝒱₀ (c : Thread nD τ) none) Set.univ P (fun _ => dev m ρ K c b') := by
  unfold dev
  rw [hD]
  exact (BI.Laws.sep_mono_left h).trans (wp_frame_r _ _ _)

/-- An ended program. -/
theorem nothing {c : Dev nD} {A : sProp 𝕄} :
    A ⊢ wp frame (wpE (defs₀ (F := F)) 𝒱₀ (c : Thread nD τ) none) Set.univ (Prog.ret PUnit.unit) (fun _ => A) := by
  rw [wp_ret]; exact fupd_intro

omit [FloatOps F] in
theorem read_weights (f : (cc0_scratch1 : Ref sig .tc).ty.Contents (Elt F)) :
    (uM : Memref sig .tc .vmem S4096x256 .bf16).view.readAt (Elt F) (Rect.unit (s := S4096x256) ![0, 0] S4096x256.size inb_S4096x256_S4096x256_0_0).toLoadRect f = f :=
  Memref.readAt_unit_zero (Elt F) cc0_scratch1 (funext fun a => by fin_cases a <;> rfl) _ f

/-- One block's product. -/
theorem wp_gemmP (c : Dev nD) (b : Book) (k : Fin 32) (hk : k ∈ b.G) (v : F .f32) (hv : v = scl m ρ c)
    (off : Fin 3 → ℕ) (ho : off = offS (ab c k)) (hin) (oof : Fin 2 → ℕ) (hoo : oof = offO (ab c k)) (oin) :
    dev m ρ K c b ⊢ wp frame (wpE (defs₀ (F := F)) 𝒱₀ (c : Thread nD τ) none) Set.univ (gemmP oM gM uM v off hin oof oin)
      (fun _ => dev m ρ K c (b.work k)) := by
  subst hv; subst ho; subst hoo
  simp only [Prog.lift, Prog.bind_op, Prog.bind_ret, Prog.pure_eq_ret]
  unfold dev comp exch shares Book.work
  dsimp only
  rw [pull (piece m ρ c fullShare.right.right) hk]
  simp only [piece, slotPts_eq c (ab c k)]
  iintro ⟨⟨Henv, HO, HT, HE, HS, HS', HR, HR', HA, HB, Hk, HG⟩, Hw, ⟨%f, %hf, Hout⟩⟩
  iapply (wp_load 𝒱₀ (c : Thread nD τ) none Set.univ (m := gM) (S := (rectS (ab c k)).set)
    (le_of_eq ((View.set_slice (v := View.whole cc0_scratch0) (rectS (ab c k))).symm.trans (View.set_slice_whole cc0_scratch0 (rectS (ab c k)))))) $$ Hk
  iintro Hk
  rw [read_gat]
  iapply (wp_load 𝒱₀ (c : Thread nD τ) none Set.univ (m := uM) (Finset.subset_univ _)) $$ Hw; iintro Hw
  rw [read_weights]
  iapply (wp_load 𝒱₀ (c : Thread nD τ) none Set.univ (m := oM) (Finset.subset_univ _)) $$ Hout; iintro Hout
  iapply (wp_store 𝒱₀ (c : Thread nD τ) none Set.univ (m := oM) (r := rectO (ab c k)) (Mk := Finset.univ) (Finset.subset_univ _)) $$ Hout; iintro Hout
  rw [wp_ret]; imodintro
  isplitr [Hw Hout]
  · isplitl [Henv]; · iexact Henv
    isplitl [HO]; · iexact HO
    isplitl [HT]; · iexact HT
    isplitl [HE]; · iexact HE
    isplitl [HS]; · iexact HS
    isplitl [HS']; · iexact HS'
    isplitl [HR]; · iexact HR
    isplitl [HR']; · iexact HR'
    isplitl [HA]; · iexact HA
    isplitl [HB]; · iexact HB
    isplitl [Hk] <;> iassumption
  isplitl [Hw]; · iexact Hw
  iexists _
  isplitr
  · ipureintro; exact hf.write m ρ k
  iexact Hout

/-! ## Scales and weights -/

/-- A staged operand. -/
abbrev held (c : Dev nD) (b : Ref sig .tc) (X : b.ty.Contents (Elt F)) : sProp 𝕄 := ((c : Thread nD τ).loc b) ↦{fullShare} X

theorem wp_weightsP (c : Dev nD) :
    iprop(held c cc0_stg1_0 (wstg m ρ c) ∗ held c cc0_stg2_0 (astg m ρ c) ∗ held c cc0_stg3_0 (bstg m ρ c)
        ∗ (∃ f, held c cc0_scratch1 f) ∗ ∃ f, held c cc0_stg4_0 f)
      ⊢ wp frame (wpE (defs₀ (F := F)) 𝒱₀ (c : Thread nD τ) none) Set.univ (weightsP wM aM bM uM (Memref.isWhole_whole _))
        (fun v => iprop(⌜v = scl m ρ c⌝ ∗ (held c cc0_stg1_0 (wstg m ρ c) ∗ held c cc0_stg2_0 (astg m ρ c) ∗ held c cc0_stg3_0 (bstg m ρ c))
          ∗ comp m ρ c ∅)) := by
  unfold weightsP smemLoad smemLoadElt
  simp only [Prog.lift, Prog.bind_op, Prog.bind_ret, Prog.pure_eq_ret]
  iintro ⟨Hw, Ha, Hb, ⟨%f, Hu⟩, ⟨%g, Hout⟩⟩
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  iapply (wp_load 𝒱₀ (c : Thread nD τ) none Set.univ (m := wM) (Finset.subset_univ _)) $$ Hw; iintro Hw
  rw [show (wM : Memref sig .tc .vmem S4096x256 .fp8e5m2).view.readAt (Elt F) (Rect.unit (s := S4096x256) ![0, 0] S4096x256.size inb_S4096x256_S4096x256_0_0).toLoadRect (wstg m ρ c) = wstg m ρ c from
    Memref.readAt_unit_zero (Elt F) cc0_stg1_0 (funext fun a => by fin_cases a <;> rfl) _ _]
  iapply (wp_load 𝒱₀ (c : Thread nD τ) none Set.univ (m := uM) (Finset.subset_univ _)) $$ Hu; iintro Hu
  iapply (wp_store 𝒱₀ (c : Thread nD τ) none Set.univ (m := uM) (r := (Rect.unit (s := S4096x256) ![0, 0] S4096x256.size inb_S4096x256_S4096x256_0_0)) (Mk := Finset.univ) (Finset.subset_univ _)) $$ Hu; iintro Hu
  rw [show ((uM : Memref sig .tc .vmem S4096x256 .bf16).access (Rect.unit (s := S4096x256) ![0, 0] S4096x256.size inb_S4096x256_S4096x256_0_0) : View sig .tc _ _ _).write (Elt F) f (k0_pay3 (wstg m ρ c)) Finset.univ = wbf m ρ c from
    Memref.write_access_unit_zero_univ (Elt F) cc0_scratch1 (funext fun a => by fin_cases a <;> rfl) _ f _]
  rw [wp_ret]; imodintro
  isplitr
  · ipureintro
    unfold scl
    exact congrArg₂ k0_pay2 (congrArg (astg m ρ c) (only_eq _)) (congrArg (bstg m ρ c) (only_eq _))
  isplitl [Hw Ha Hb]
  · isplitl [Hw]; · iexact Hw
    isplitl [Ha] <;> iassumption
  unfold comp
  isplitl [Hu]; · iexact Hu
  iexists g
  isplitr
  · ipureintro; intro k hk; exact absurd hk (Finset.notMem_empty k)
  iexact Hout

end Cert.KernelIdeal.Ring

end
-- ==== Proof.KernelIdeal.Parts.lean ====
/- The parts of the program in order: the handshake and the own block's store, the first two sends, the rounds, the last
   two rounds, the final waits. Each is proved once, for any device and any round. -/
module

public import proofs.«01_k».proof.Proof.KernelIdeal.Work
public import proofs.«01_k».proof.Proof.KernelIdeal.Books

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cel → ℕ)

/-! ## The program's offsets and semaphores -/

theorem off1_eq (c : Dev nD) : k0_off1 c = offS c := k0_off1_eq c
theorem off2_eq (c : Dev nD) : k0_off2 c = offS (ab c 0) := (k0_off2_eq c).trans (by rw [ab_zero])
theorem off3_eq (c : Dev nD) : k0_off3 c = offO (ab c 0) := (k0_off3_eq c).trans (by rw [ab_zero])
theorem slotR : ∀ (c : Dev nD) (h : Fin 16), ((c.val + 31) - h.val) % 32 = (ab c (got (jr h.val))).val := by decide +kernel
theorem slotL : ∀ (c : Dev nD) (h : Fin 15), (c.val + h.val + 1) % 32 = (ab c (got (jl h.val))).val := by decide +kernel
theorem off4_eq (c : Dev nD) (h : ℕ) (hh : h < 16) : k0_off4 c (BitVec.ofNat 32 h) = offS (ab c (got (jr h))) :=
  (k0_off4_eq c ⟨h, hh⟩).trans (by rw [slotR c ⟨h, hh⟩])
theorem off6_eq (c : Dev nD) (h : ℕ) (hh : h < 16) : k0_off6 c (BitVec.ofNat 32 h) = offS (ab c (got (jr h))) :=
  (k0_off6_eq c ⟨h, hh⟩).trans (by rw [slotR c ⟨h, hh⟩])
theorem off7_eq (c : Dev nD) (h : ℕ) (hh : h < 16) : k0_off7 c (BitVec.ofNat 32 h) = offO (ab c (got (jr h))) :=
  (k0_off7_eq c ⟨h, hh⟩).trans (by rw [slotR c ⟨h, hh⟩])
theorem off5_eq (c : Dev nD) (h : ℕ) (hh : h < 15) : k0_off5 c (BitVec.ofNat 32 h) = offS (ab c (got (jl h))) :=
  (k0_off5_eq c ⟨h, hh⟩).trans (by rw [slotL c ⟨h, hh⟩])
theorem off8_eq (c : Dev nD) (h : ℕ) (hh : h < 15) : k0_off8 c (BitVec.ofNat 32 h) = offS (ab c (got (jl h))) :=
  (k0_off8_eq c ⟨h, hh⟩).trans (by rw [slotL c ⟨h, hh⟩])
theorem off9_eq (c : Dev nD) (h : ℕ) (hh : h < 15) : k0_off9 c (BitVec.ofNat 32 h) = offO (ab c (got (jl h))) :=
  (k0_off9_eq c ⟨h, hh⟩).trans (by rw [slotL c ⟨h, hh⟩])
/-- What is passed on is what was received. -/
theorem lent_jr : ∀ h : Fin 15, lent (jr (h.val + 1)) = got (jr h.val) := by decide +kernel
theorem lent_jl : ∀ h : Fin 14, lent (jl (h.val + 1)) = got (jl h.val) := by decide +kernel
theorem tgt_jr (c : Dev nD) (h : Fin 16) : nxt c = tgt c (jr h.val) := by
  unfold tgt; rw [if_pos ((by decide +kernel : ∀ h : Fin 16, (jr h.val).val < 16) h)]
theorem tgt_jl (c : Dev nD) (h : Fin 15) : prv c = tgt c (jl h.val) := by
  unfold tgt; rw [if_neg ((by decide +kernel : ∀ h : Fin 15, ¬ (jl h.val).val < 16) h)]
theorem sndR (h : ℕ) (hh : h < 16) : at16 cc0_scratch2 h (in16 h hh) = sndS (jr h) :=
  (sem_sndR ⟨h, hh⟩).trans (congrArg sndS (Fin.ext (Nat.mod_eq_of_lt (show h < 31 by omega)).symm))
theorem rcvR (h : ℕ) (hh : h < 16) : at16 cc0_scratch3 h (in16 h hh) = rcvS (jr h) :=
  (sem_rcvR ⟨h, hh⟩).trans (congrArg rcvS (Fin.ext (Nat.mod_eq_of_lt (show h < 31 by omega)).symm))
theorem sndL (h : ℕ) (hh : h < 15) : at15 cc0_scratch4 h (in15 h hh) = sndS (jl h) :=
  (sem_sndL ⟨h, hh⟩).trans (congrArg sndS (Fin.ext (Nat.mod_eq_of_lt (show 16 + h < 31 by omega)).symm))
theorem rcvL (h : ℕ) (hh : h < 15) : at15 cc0_scratch5 h (in15 h hh) = rcvS (jl h) :=
  (sem_rcvL ⟨h, hh⟩).trans (congrArg rcvS (Fin.ext (Nat.mod_eq_of_lt (show 16 + h < 31 by omega)).symm))

/-! ## The steps of a round -/

abbrev whole0 : (gM : Memref sig .tc .vmem S32x128x4096 .fp8e4m3).IsWhole := Memref.isWhole_whole _

theorem wp_recvR (c : Dev nD) (b : Book) (h : ℕ) (hh : h < 16) (hb : b.CanRecv (jr h)) :
    dev m ρ K c b ⊢ wp frame (wpE (defs₀ (F := F)) 𝒱₀ (c : Thread nD τ) none) Set.univ (recvRP gM whole0 cc0_scratch3 c h hh)
      (fun _ => dev m ρ K c (b.recv (jr h))) :=
  beside m ρ K (wp_recvP m ρ K c b (jr h) hb.1 hb.2.1 hb.2.2.1 hb.2.2.2.1 hb.2.2.2.2 _ (rcvR h hh) _ _ _ _) rfl
theorem wp_recvL (c : Dev nD) (b : Book) (h : ℕ) (hh : h < 15) (hb : b.CanRecv (jl h)) :
    dev m ρ K c b ⊢ wp frame (wpE (defs₀ (F := F)) 𝒱₀ (c : Thread nD τ) none) Set.univ (recvLP gM whole0 cc0_scratch5 c h hh)
      (fun _ => dev m ρ K c (b.recv (jl h))) :=
  beside m ρ K (wp_recvP m ρ K c b (jl h) hb.1 hb.2.1 hb.2.2.1 hb.2.2.2.1 hb.2.2.2.2 _ (rcvL h hh) _ _ _ _) rfl
theorem wp_passR (c n : Dev nD) (hn : n = nxt c) (b : Book) (h : ℕ) (hh : h + 1 < 16) (hb : b.CanSend (jr (h + 1))) :
    dev m ρ K c b ⊢ wp frame (wpE (defs₀ (F := F)) 𝒱₀ (c : Thread nD τ) none) Set.univ (passRP gM whole0 cc0_scratch2 cc0_scratch3 c n h hh)
      (fun _ => dev m ρ K c (b.send (jr (h + 1)))) :=
  beside m ρ K (wp_sendP m ρ K c b (jr (h + 1)) hb.1 hb.2.1 hb.2.2 n (hn.trans (tgt_jr c ⟨h + 1, hh⟩)) _ _ (sndR _ hh) (rcvR _ hh) _
    ((off4_eq c h (Nat.lt_of_succ_lt hh)).trans (by rw [lent_jr ⟨h, by omega⟩])) _ _ _) rfl
theorem wp_passL (c n : Dev nD) (hn : n = prv c) (b : Book) (h : ℕ) (hh : h + 1 < 15) (hb : b.CanSend (jl (h + 1))) :
    dev m ρ K c b ⊢ wp frame (wpE (defs₀ (F := F)) 𝒱₀ (c : Thread nD τ) none) Set.univ (passLP gM whole0 cc0_scratch4 cc0_scratch5 c n h hh)
      (fun _ => dev m ρ K c (b.send (jl (h + 1)))) :=
  beside m ρ K (wp_sendP m ρ K c b (jl (h + 1)) hb.1 hb.2.1 hb.2.2 n (hn.trans (tgt_jl c ⟨h + 1, hh⟩)) _ _ (sndL _ hh) (rcvL _ hh) _
    ((off5_eq c h (Nat.lt_of_succ_lt hh)).trans (by rw [lent_jl ⟨h, by omega⟩])) _ _ _) rfl
theorem wp_gemmR (c : Dev nD) (b : Book) (v : F .f32) (hv : v = scl m ρ c) (h : ℕ) (hh : h < 16) (hb : got (jr h) ∈ b.G) :
    dev m ρ K c b ⊢ wp frame (wpE (defs₀ (F := F)) 𝒱₀ (c : Thread nD τ) none) Set.univ (gemmRP oM gM uM c v h hh)
      (fun _ => dev m ρ K c (b.work (got (jr h)))) :=
  wp_gemmP m ρ K c b _ hb v hv _ (off6_eq c h hh) _ _ (off7_eq c h hh) _
theorem wp_gemmL (c : Dev nD) (b : Book) (v : F .f32) (hv : v = scl m ρ c) (h : ℕ) (hh : h < 15) (hb : got (jl h) ∈ b.G) :
    dev m ρ K c b ⊢ wp frame (wpE (defs₀ (F := F)) 𝒱₀ (c : Thread nD τ) none) Set.univ (gemmLP oM gM uM c v h hh)
      (fun _ => dev m ρ K c (b.work (got (jl h)))) :=
  wp_gemmP m ρ K c b _ hb v hv _ (off8_eq c h hh) _ _ (off9_eq c h hh) _

/-- A full round. -/
theorem wp_roundP (c n p : Dev nD) (hn : n = nxt c) (hp : p = prv c) (v : F .f32) (hv : v = scl m ρ c) (h : ℕ) (hh : h < 14) :
    dev m ρ K c (bk h) ⊢ wp frame (wpE (defs₀ (F := F)) 𝒱₀ (c : Thread nD τ) none) Set.univ
      (roundP oM gM whole0 uM cc0_scratch2 cc0_scratch3 cc0_scratch4 cc0_scratch5 c n p v h hh) (fun _ => dev m ρ K c (bk (h + 1))) := by
  obtain ⟨h1, h2, h3, h4, h5, h6⟩ := can_round ⟨h, hh⟩
  exact andThen (wp_recvR m ρ K c _ h (by omega) h1) fun _ => andThen (wp_passR m ρ K c n hn _ h (by omega) h2) fun _ =>
    andThen (wp_recvL m ρ K c _ h (by omega) h3) fun _ => andThen (wp_passL m ρ K c p hp _ h (by omega) h4) fun _ =>
    andThen (wp_gemmR m ρ K c _ v hv h (by omega) h5) fun _ => wp_gemmL m ρ K c _ v hv h (by omega) h6

/-- The rounds, for any list of targets that are the two neighbours. -/
theorem wp_roundsP (c : Dev nD) (v : F .f32) (hv : v = scl m ρ c) : ∀ (l : List (Dev nD × Dev nD)) (h : ℕ) (hl : h + l.length ≤ 14),
    (∀ q ∈ l, q.1 = nxt c ∧ q.2 = prv c) →
    dev m ρ K c (bk h) ⊢ wp frame (wpE (defs₀ (F := F)) 𝒱₀ (c : Thread nD τ) none) Set.univ
      (roundsP oM gM whole0 uM cc0_scratch2 cc0_scratch3 cc0_scratch4 cc0_scratch5 c v l h hl) (fun _ => dev m ρ K c (bk (h + l.length)))
  | [], h, hl, _ => nothing
  | q :: l, h, hl, hq => by
    have e : h + 1 + l.length = h + (q :: l).length := by rw [List.length_cons]; omega
    rw [← e]
    exact andThen (wp_roundP m ρ K c q.1 q.2 (hq q List.mem_cons_self).1 (hq q List.mem_cons_self).2 v hv h _) fun _ =>
      wp_roundsP c v hv l (h + 1) (by omega) fun q' h' => hq q' (List.mem_cons_of_mem _ h')

/-- The last two rounds. -/
theorem wp_lastP (c n : Dev nD) (hn : n = nxt c) (v : F .f32) (hv : v = scl m ρ c) :
    dev m ρ K c (bk 14) ⊢ wp frame (wpE (defs₀ (F := F)) 𝒱₀ (c : Thread nD τ) none) Set.univ
      (lastP oM gM whole0 uM cc0_scratch2 cc0_scratch3 cc0_scratch5 c n v) (fun _ => dev m ρ K c (dr 0)) := by
  obtain ⟨h1, h2, h3, h4, h5, h6, h7⟩ := can_last
  exact andThen (wp_recvR m ρ K c _ 14 (by omega) h1) fun _ => andThen (wp_passR m ρ K c n hn _ 14 (by omega) h2) fun _ =>
    andThen (wp_recvL m ρ K c _ 14 (by omega) h3) fun _ => andThen (wp_gemmR m ρ K c _ v hv 14 (by omega) h4) fun _ =>
    andThen (wp_gemmL m ρ K c _ v hv 14 (by omega) h5) fun _ => andThen (wp_recvR m ρ K c _ 15 (by omega) h6) fun _ =>
    wp_gemmR m ρ K c _ v hv 15 (by omega) h7

/-- The final waits, to the right and to the left. -/
theorem wp_drainsR (c : Dev nD) : ∀ (k h : ℕ) (hk : h + k ≤ 16),
    dev m ρ K c (dr h) ⊢ wp frame (wpE (defs₀ (F := F)) 𝒱₀ (c : Thread nD τ) none) Set.univ
      (drainsR gM whole0 cc0_scratch2 c k h hk) (fun _ => dev m ρ K c (dr (h + k)))
  | 0, h, hk => nothing
  | k + 1, h, hk => by
    have hd := can_drain ⟨h, by omega⟩
    rw [show h + (k + 1) = h + 1 + k by omega]
    exact andThen (beside m ρ K
        (wp_drainP m ρ K c (dr h) (Fin.ofNat 31 h) hd.1 hd.2.1 hd.2.2.1 hd.2.2.2 _ (sndR h (by omega)) _ _ _ _) rfl) fun _ =>
      wp_drainsR c k (h + 1) (by omega)
theorem wp_drainsL (c : Dev nD) : ∀ (k h : ℕ) (hk : h + k ≤ 15),
    dev m ρ K c (dr (16 + h)) ⊢ wp frame (wpE (defs₀ (F := F)) 𝒱₀ (c : Thread nD τ) none) Set.univ
      (drainsL gM whole0 cc0_scratch4 c k h hk) (fun _ => dev m ρ K c (dr (16 + h + k)))
  | 0, h, hk => nothing
  | k + 1, h, hk => by
    have hd := can_drain ⟨16 + h, by omega⟩
    rw [show 16 + h + (k + 1) = 16 + (h + 1) + k by omega]
    exact andThen (beside m ρ K
        (wp_drainP m ρ K c (dr (16 + h)) (Fin.ofNat 31 (16 + h)) hd.1 hd.2.1 hd.2.2.1 hd.2.2.2 _ (sndL h (by omega)) _ _ _ _) rfl) fun _ =>
      wp_drainsL c k (h + 1) (by omega)

/-- The first two sends. -/
theorem wp_firstP (c n p : Dev nD) (hn : n = nxt c) (hp : p = prv c) :
    exch m ρ K c b0 ⊢ wp frame (wpE (defs₀ (F := F)) 𝒱₀ (c : Thread nD τ) none) Set.univ
      (firstP gM whole0 cc0_scratch2 cc0_scratch3 cc0_scratch4 cc0_scratch5 c n p) (fun _ => exch m ρ K c b1) := by
  obtain ⟨h1, h2, -⟩ := can_first
  exact andThen (wp_sendP m ρ K c _ (jr 0) h1.1 h1.2.1 h1.2.2 n (hn.trans (tgt_jr c 0)) _ _ (sndR 0 (by omega)) (rcvR 0 (by omega)) _ (off2_eq c) _ _ _) fun _ =>
    wp_sendP m ρ K c _ (jl 0) h2.1 h2.2.1 h2.2.2 p (hp.trans (tgt_jl c 0)) _ _ (sndL 0 (by omega)) (rcvL 0 (by omega)) _ (off2_eq c) _ _ _

/-- The targets the program computes are the two neighbours. -/
theorem targets_eq (c : Dev nD) : ∀ q ∈ targets c, q.1 = nxt c ∧ q.2 = prv c := by
  unfold targets
  simp only [List.forall_mem_cons]
  exact ⟨⟨Fin.ext (k0_dev5_eq c), Fin.ext (k0_dev6_eq c)⟩,
    ⟨Fin.ext (k0_dev7_eq c), Fin.ext (k0_dev8_eq c)⟩,
    ⟨Fin.ext (k0_dev9_eq c), Fin.ext (k0_dev10_eq c)⟩,
    ⟨Fin.ext (k0_dev11_eq c), Fin.ext (k0_dev12_eq c)⟩,
    ⟨Fin.ext (k0_dev13_eq c), Fin.ext (k0_dev14_eq c)⟩,
    ⟨Fin.ext (k0_dev15_eq c), Fin.ext (k0_dev16_eq c)⟩,
    ⟨Fin.ext (k0_dev17_eq c), Fin.ext (k0_dev18_eq c)⟩,
    ⟨Fin.ext (k0_dev19_eq c), Fin.ext (k0_dev20_eq c)⟩,
    ⟨Fin.ext (k0_dev21_eq c), Fin.ext (k0_dev22_eq c)⟩,
    ⟨Fin.ext (k0_dev23_eq c), Fin.ext (k0_dev24_eq c)⟩,
    ⟨Fin.ext (k0_dev25_eq c), Fin.ext (k0_dev26_eq c)⟩,
    ⟨Fin.ext (k0_dev27_eq c), Fin.ext (k0_dev28_eq c)⟩,
    ⟨Fin.ext (k0_dev29_eq c), Fin.ext (k0_dev30_eq c)⟩,
    ⟨Fin.ext (k0_dev31_eq c), Fin.ext (k0_dev32_eq c)⟩,
    fun q h => absurd h List.not_mem_nil⟩

end Cert.KernelIdeal.Ring

end
-- ==== Proof.KernelIdeal.Body.lean ====
/- The whole program on one device: from what the launch hands it to the result, every transfer over and every share of
   the gather buffer back; and the obligation the pipeline theorem asks of the body. -/
module

public import proofs.«01_k».proof.Proof.KernelIdeal.Parts
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cel → ℕ)

/-! ## The opening -/

omit [FloatOps F] in
/-- The slot the like-numbered transfer towards `c` fills is `c`'s. -/
theorem land_org (c : Dev nD) (j : J) : land (F := F) (org c j) j = iprop(∃ f, slotPts (F := F) c (ab c (got j)) fullShare f) := by
  unfold land; rw [← ab_tgt_got, tgt_org]

omit [FloatOps F] in
/-- The gather buffer split: the own slot, the slots the left neighbour's right-going transfers fill, those the right
    neighbour's left-going transfers fill. -/
theorem gather_split (c : Dev nD) (f : (cc0_scratch0 : Ref sig .tc).ty.Contents (Elt F)) :
    held c cc0_scratch0 f ⊢ iprop(slotPts (F := F) c c fullShare f ∗ barPay (F := F) (prv c) true ∗ barPay (F := F) (nxt c) false) := by
  have hd : ∀ (d : Bool) (n : Dev nD), (∀ j : J, toR j = d → org c j = n) →
      (bigSep (Finset.univ.filter fun j : J => toR j = d) fun j => slotPts (F := F) c (ab c (got j)) fullShare f) ⊢ barPay (F := F) n d := fun d n h => by
    unfold barPay
    refine each fun j hj => ?_
    rw [← h j (Finset.mem_filter.mp hj).2, land_org]
    iintro H
    iexists f; iexact H
  unfold held
  rw [slots_split c fullShare f, ← got_image, push _ (fun h => by obtain ⟨j, -, hj⟩ := Finset.mem_image.mp h; exact got_ne_zero j hj), ab_zero,
    show Finset.univ.image got = Finset.univ.map ⟨got, got_injective⟩ from (Finset.map_eq_image ⟨got, got_injective⟩ _).symm, bigSep_map,
    show (Finset.univ : Finset J) = (Finset.univ.filter fun j : J => toR j = true) ∪ Finset.univ.filter fun j : J => toR j = false from by decide +kernel,
    bigSep_union (by decide +kernel)]
  refine sep_mono_right (BI.Laws.sep_mono (hd true (prv c) fun j hj => ?_) (hd false (nxt c) fun j hj => ?_))
  · unfold org; rw [if_pos (of_decide_eq_true hj)]
  · unfold org; rw [if_neg (of_decide_eq_false hj)]

/-- The own block stored in its slot. -/
theorem wp_ownP (c : Dev nD) (off : Fin 3 → ℕ) (ho : off = offS c) (hin) (hl0) (hl1) (hst) (f) {Q : PUnit → sProp 𝕄} :
    iprop(held c cc0_stg0_0 (xstg m ρ c) ∗ slotPts (F := F) c c fullShare f)
      ⊢ iprop(((held c cc0_stg0_0 (xstg m ρ c) ∗ slotPts (F := F) c c fullShare (gat m ρ))
            -∗ wp frame (wpE (defs₀ (F := F)) 𝒱₀ (c : Thread nD τ) none) Set.univ (Prog.ret PUnit.unit) Q)
          -∗ wp frame (wpE (defs₀ (F := F)) 𝒱₀ (c : Thread nD τ) none) Set.univ
            (.op (.load xM (Rect.unit (s := S128x4096) ![0, 0] S128x4096.size inb_S128x4096_S128x4096_0_0).toLoadRect hl0) fun x =>
              .op (.load gM (Rect.unit (s := S32x128x4096) off S1x128x4096.size hin).toLoadRect hl1) fun _ =>
              .op (.store gM (Rect.unit (s := S32x128x4096) off S1x128x4096.size hin) (k0_pay1 x) Finset.univ hst (.inl rfl)) Prog.ret) Q) := by
  subst ho
  rw [slotPts_eq, slotPts_eq]
  iintro ⟨Hx, Hg⟩ Hk
  iapply (wp_load 𝒱₀ (c : Thread nD τ) none Set.univ (m := xM) (Finset.subset_univ _)) $$ Hx; iintro Hx
  rw [show (xM : Memref sig .tc .vmem S128x4096 .fp8e4m3).view.readAt (Elt F) (Rect.unit (s := S128x4096) ![0, 0] S128x4096.size inb_S128x4096_S128x4096_0_0).toLoadRect (xstg m ρ c) = xstg m ρ c from
    Memref.readAt_unit_zero (Elt F) cc0_stg0_0 (funext fun a => by fin_cases a <;> rfl) _ _]
  iapply (wp_load 𝒱₀ (c : Thread nD τ) none Set.univ (m := gM) (S := (rectS c).set)
    (le_of_eq ((View.set_slice (v := View.whole cc0_scratch0) (rectS c)).symm.trans (View.set_slice_whole cc0_scratch0 (rectS c))))) $$ Hg; iintro Hg
  iapply (wp_store 𝒱₀ (c : Thread nD τ) none Set.univ (m := gM) (r := rectS c) (Mk := Finset.univ) (S := (rectS c).set)
    (le_of_eq (View.set_slice_whole cc0_scratch0 (rectS c)))) $$ Hg; iintro Hg
  iapply Hk
  isplitl [Hx]; · iexact Hx
  iapply (Entails.of_eq (pointsTo_congr (store_gat m ρ c f))); iexact Hg

/-- What the opening takes. -/
def openPre (c : Dev nD) : sProp 𝕄 :=
  iprop((records m ρ K ∗ levAts L lv) ∗ (∃ W, owes (c : Thread nD τ) (O₀ c) W)
    ∗ (dutyTok ER (barCell (prv c)) 0 true ∗ dutyTok ER (barCell (nxt c)) 0 false)
    ∗ (cred (tallyAt (barCell c) () 2) ∗ atPos ER (barCell c) 0 ∅ 0)
    ∗ (bigSep Finset.univ fun j : J => iprop(dutyTok ER (sndCell c j) 0 false ∗ dutyTok ER (rcvCell (tgt c j) j) 0 false))
    ∗ (bigSep Finset.univ fun j : J => atPos ER (sndCell c j) 0 ∅ 0) ∗ bigSep Finset.univ (recvTok (F := F) c)
    ∗ (∃ f, held c cc0_scratch0 f) ∗ held c cc0_stg0_0 (xstg m ρ c))

set_option maxHeartbeats 800000 in
/-- The handshake hands both neighbours their slots and brings the slots this device fills; then the own block is stored. -/
theorem wp_openP (c : Dev nD) :
    openPre m ρ K c ⊢ wp frame (wpE (defs₀ (F := F)) 𝒱₀ (c : Thread nD τ) none) Set.univ (openP xM gM whole0 c)
      (fun _ => iprop(exch m ρ K c b0 ∗ semVal (barCell c) 0 ∗ held c cc0_stg0_0 (xstg m ρ c))) := by
  unfold openP
  simp only [semSignalWord, semWaitWord, Prog.lift, Prog.bind_op, Prog.bind_ret, Prog.pure_eq_ret,
    show (⟨k0_dev1 c, k0_dev1_lt c⟩ : Dev nD) = prv c from Fin.ext (k0_dev1_eq c), show (⟨k0_dev2 c, k0_dev2_lt c⟩ : Dev nD) = nxt c from Fin.ext (k0_dev2_eq c)]
  unfold openPre
  iintro ⟨⟨#Hrec, #Hlev⟩, ⟨%W, HO⟩, ⟨HtP, HtN⟩, ⟨HcB, HatB⟩, HT, HS, HR, ⟨%f, Hg⟩, Hx⟩
  ihave Hgs := (gather_split c f) $$ Hg
  icases Hgs with ⟨Hown, HpP, HpN⟩
  iapply (Rounds.wp_signal 𝒱₀ ER (rd m ρ) (c : Thread nD τ) none (dst := (prv c : Thread nD τ)) (κ := K (prv c, none))
      (d := true) (by rw [duties_bar]; exact Finset.mem_univ _) ((amount_bar m ρ (prv c) true).trans (by decide)) () (O₁ c) rfl) $$ [HO HtP HpP]
  · isplitr; · iapply (inv_at m ρ K (prv c, none)); iexact Hrec
    isplitl [HO]; · iexact HO
    isplitl [HtP]; · iexact HtP
    isplitl [HpP]; · rw [payload_bar]; iexact HpP
    iapply (reached_at m ρ K (prv c, none)); iexact Hrec
  iintro HO
  iapply (Rounds.wp_signal 𝒱₀ ER (rd m ρ) (c : Thread nD τ) none (dst := (nxt c : Thread nD τ)) (κ := K (nxt c, none))
      (d := false) (by rw [duties_bar]; exact Finset.mem_univ _) ((amount_bar m ρ (nxt c) false).trans (by decide)) () (owed c Finset.univ) rfl) $$ [HO HtN HpN]
  · isplitr; · iapply (inv_at m ρ K (nxt c, none)); iexact Hrec
    isplitl [HO]; · iexact HO
    isplitl [HtN]; · iexact HtN
    isplitl [HpN]; · rw [payload_bar]; iexact HpN
    iapply (reached_at m ρ K (nxt c, none)); iexact Hrec
  iintro HO
  iapply (Rounds.wp_wait_rest_token 𝒱₀ ER (rd m ρ) (c : Thread nD τ) none (κ := K (c, none))
      (wpE_semWait_eq 𝒱₀ (c : Thread nD τ) none Set.univ) (Set.mem_univ _) () (O := owed c Finset.univ) (W := W) (R := 0) (m := 0) (T := ∅)
      (by rw [expect_bar]; decide)) $$ [HcB HO HatB]
  · isplitr; · iapply (inv_at m ρ K (c, none)); iexact Hrec
    isplitl [HcB]; · iexact HcB
    isplitl [HO]; · iexact HO
    isplitr; · iapply (mayWait_owed c Finset.univ (.reg barS) 1 (le_of_eq (lv_bar c)) (fun j _ => by omega)); iexact Hlev
    iexact HatB
  iintro ⟨HO, HatB, -, Hpay⟩
  ihave Hp := (Entails.of_eq (rest_bar m ρ c)) $$ Hpay
  imod (Rounds.cell_close ER (rd m ρ) (Set.mem_univ (K (c, none))) (fun h => h) (R := 0 + 1) (duties_later m ρ (barCell c))) $$ [HatB] with Hz
  · isplitr; · iapply (inv_at m ρ K (c, none)); iexact Hrec
    iexact HatB
  iapply (wp_ownP m ρ c (k0_off1 c) (off1_eq c) _ _ _ _ f) $$ [Hx Hown]
  · isplitl [Hx] <;> iassumption
  iintro ⟨Hx, Hown⟩
  rw [wp_ret]; imodintro
  isplitr [Hz Hx]
  · unfold exch b0 shares
    dsimp only
    rw [Finset.compl_univ]
    simp only [bigSep_empty, bigSep_singleton, piece, ab_zero]
    ihave Hs := (Entails.of_eq (slotPts_three c c (gat m ρ))) $$ Hown
    isplitr
    · isplitr; · iexact Hrec
      iexact Hlev
    isplitl [HO]; · iexists _; iexact HO
    isplitl [HT Hp]
    · iapply (show iprop((bigSep Finset.univ fun j : J => iprop(dutyTok ER (sndCell c j) 0 false ∗ dutyTok ER (rcvCell (tgt c j) j) 0 false))
          ∗ bigSep Finset.univ (land (F := F) c)) ⊢ bigSep Finset.univ (sendTok (F := F) c) from by
        rw [← bigSep_sep']
        refine each fun j _ => ?_
        unfold sendTok
        iintro ⟨⟨H1, H2⟩, H3⟩
        isplitl [H1]; · iexact H1
        isplitl [H2] <;> iassumption)
      isplitl [HT] <;> iassumption
    isplitr; · iempintro
    isplitl [HS]; · iexact HS
    isplitr; · iempintro
    isplitl [HR]; · iexact HR
    isplitr; · iempintro
    iexact Hs
  isplitl [Hz] <;> iassumption

/-! ## The whole program -/

/-- The operands beside `x`. -/
abbrev operands (c : Dev nD) : sProp 𝕄 :=
  iprop(held c cc0_stg1_0 (wstg m ρ c) ∗ held c cc0_stg2_0 (astg m ρ c) ∗ held c cc0_stg3_0 (bstg m ρ c))

/-- Every transfer over, every block done. -/
def finish (c : Dev nD) : sProp 𝕄 :=
  iprop((∃ W, owes (c : Thread nD τ) 0 W) ∗ (bigSep Finset.univ fun j : J => semVal (sndCell c j) 0) ∗ (bigSep Finset.univ fun j : J => semVal (rcvCell c j) 0)
    ∗ held c cc0_scratch0 (gat m ρ) ∗ held c cc0_scratch1 (wbf m ρ c) ∗ held c cc0_stg4_0 (outT m ρ c))

theorem dev_finish (c : Dev nD) : dev m ρ K c (dr 31) ⊢ finish m ρ c := by
  rw [dr_end]
  unfold dev exch comp shares finish
  dsimp only
  rw [Finset.compl_empty, owed_empty]
  iintro ⟨⟨-, HO, -, -, -, HzS, -, HzR, HA, HB, HG⟩, Hu, ⟨%f, %hf, Hout⟩⟩
  isplitl [HO]; · iexact HO
  isplitl [HzS]; · iexact HzS
  isplitl [HzR]; · iexact HzR
  isplitl [HA HB HG]
  · unfold held
    rw [slots_split c fullShare (gat m ρ), bigSep_congr fun k _ => slotPts_three c (ab c k) (gat m ρ), bigSep_sep', bigSep_sep']
    isplitl [HA]; · iexact HA
    isplitl [HB] <;> iassumption
  isplitl [Hu]; · iexact Hu
  rw [hf.full]; iexact Hout

/-- The program. -/
theorem wp_bodyP (c : Dev nD) :
    iprop(openPre m ρ K c ∗ operands m ρ c ∗ (∃ f, held c cc0_scratch1 f) ∗ ∃ f, held c cc0_stg4_0 f)
      ⊢ wp frame (wpE (defs₀ (F := F)) 𝒱₀ (c : Thread nD τ) none) Set.univ
        (bodyP xM wM aM bM oM gM whole0 uM (Memref.isWhole_whole _) cc0_scratch2 cc0_scratch3 cc0_scratch4 cc0_scratch5 c)
        (fun _ => iprop(finish m ρ c ∗ semVal (barCell c) 0 ∗ held c cc0_stg0_0 (xstg m ρ c) ∗ operands m ρ c)) := by
  unfold bodyP
  refine andThen ((BI.Laws.sep_mono_left (wp_openP m ρ K c)).trans (wp_frame_r _ _ _)) fun _ => ?_
  refine andThen (((show _ ⊢ iprop(exch m ρ K c b0 ∗ (semVal (barCell c) 0 ∗ held c cc0_stg0_0 (xstg m ρ c))
      ∗ operands m ρ c ∗ (∃ f, held c cc0_scratch1 f) ∗ ∃ f, held c cc0_stg4_0 f) from ?_).trans
    (BI.Laws.sep_mono_left (wp_firstP m ρ K c _ _ (Fin.ext (k0_dev3_eq c)) (Fin.ext (k0_dev4_eq c))))).trans (wp_frame_r _ _ _)) fun _ => ?_
  · iintro ⟨⟨H1, H2⟩, H3⟩
    isplitl [H1]; · iexact H1
    isplitl [H2] <;> iassumption
  refine andThen (((show _ ⊢ iprop((held c cc0_stg1_0 (wstg m ρ c) ∗ held c cc0_stg2_0 (astg m ρ c) ∗ held c cc0_stg3_0 (bstg m ρ c)
      ∗ (∃ f, held c cc0_scratch1 f) ∗ ∃ f, held c cc0_stg4_0 f) ∗ exch m ρ K c b1 ∗ (semVal (barCell c) 0 ∗ held c cc0_stg0_0 (xstg m ρ c))) from ?_).trans
    (BI.Laws.sep_mono_left (wp_weightsP m ρ c))).trans (wp_frame_r _ _ _)) fun v => ?_
  · iintro ⟨H1, H2, ⟨Hw, Ha, Hb⟩, Hu, Ho⟩
    isplitl [Hw Ha Hb Hu Ho]
    · isplitl [Hw]; · iexact Hw
      isplitl [Ha]; · iexact Ha
      isplitl [Hb]; · iexact Hb
      isplitl [Hu] <;> iassumption
    isplitl [H1] <;> iassumption
  iintro ⟨⟨%hv, Hop, Hcomp⟩, Hex, HB⟩
  iapply ((BI.Laws.sep_mono_left (show dev m ρ K c b1 ⊢ _ from
    andThen (wp_gemmP m ρ K c b1 0 can_first.2.2 v hv _ ((off1_eq c).trans (by rw [ab_zero])) _ _ (off3_eq c) _) fun _ =>
    andThen (wp_roundsP m ρ K c v hv (targets c) 0 _ (targets_eq c)) fun _ =>
    andThen (wp_lastP m ρ K c _ (Fin.ext (k0_dev33_eq c)) v hv) fun _ =>
    andThen (wp_drainsR m ρ K c 16 0 _) fun _ => (wp_drainsL m ρ K c 15 0 _).trans (wp_mono _ _ _ fun _ => dev_finish m ρ K c))).trans (wp_frame_r _ _ _))
  unfold dev
  isplitr [HB Hop]
  · isplitl [Hex]; · iexact Hex
    iexact Hcomp
  icases HB with ⟨Hz, Hx⟩
  isplitl [Hz]; · iexact Hz
  isplitl [Hx] <;> iassumption

end Cert.KernelIdeal.Ring

end
-- ==== Proof.KernelIdeal.Obligation.lean ====
/- What the pipeline theorem asks of the body: the staging buffers before and after it, and what is held around it. -/
module

public import proofs.«01_k».proof.Proof.KernelIdeal.Body
public import proofs.«01_k».proof.Proof.Gen.KernelIdeal.Points

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cel → ℕ)

/-- The rights and positions a device starts with: the records; its two neighbours' barrier tokens; its place at its own
    barrier; the tokens of its transfers; its places at its send and receive cells. -/
def ghost (c : Dev nD) : sProp 𝕄 :=
  iprop(records m ρ K
    ∗ (dutyTok ER (barCell (prv c)) 0 true ∗ dutyTok ER (barCell (nxt c)) 0 false)
    ∗ atPos ER (barCell c) 0 ∅ 0
    ∗ (bigSep Finset.univ fun j : J => iprop(dutyTok ER (sndCell c j) 0 false ∗ dutyTok ER (rcvCell (tgt c j) j) 0 false))
    ∗ (bigSep Finset.univ fun j : J => atPos ER (sndCell c j) 0 ∅ 0)
    ∗ bigSep Finset.univ fun j : J => atPos ER (rcvCell c j) 0 ∅ 0)

/-- With the credits of what the neighbours owe it. -/
def start (c : Dev nD) : sProp 𝕄 :=
  iprop((∃ K, ghost m ρ K c) ∗ cred (tallyAt (barCell c) () 2)
    ∗ (bigSep Finset.univ fun j : J => cred (tallyAt (rcvCell c j) () N)) ∗ levAts L lv)

/-- Held before the body; -/
def Φ₀ (c : Dev nD) : sProp 𝕄 := iprop(start m ρ c ∗ (∃ f, held c cc0_scratch0 f) ∗ ∃ f, held c cc0_scratch1 f)
/-- and after it: both scratch buffers, and every semaphore of the protocol at zero. -/
def Φ₁ (c : Dev nD) : sProp 𝕄 :=
  iprop((held c cc0_scratch0 (gat m ρ) ∗ held c cc0_scratch1 (wbf m ρ c)) ∗ semVal (barCell c) 0
    ∗ (bigSep Finset.univ fun j : J => semVal (sndCell c j) 0) ∗ bigSep Finset.univ fun j : J => semVal (rcvCell c j) 0)

/-- The pipeline's data: arrays as launched, operands left as staged, the result computed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => astg m ρ c
    | ⟨3, _⟩ => bstg m ρ c
    | ⟨4, _⟩ => outT m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
/-- A whole buffer owned at given contents. -/
theorem owns_held (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ held c b f) := by
  unfold owns held; simp only [Memref.view_whole, View.read_whole, View.set_whole]

/-- A staging buffer at given contents, as the pipeline states it. -/
abbrev stgAt (c : Dev nD) (b : Ref sig .tc) (X : b.ty.Contents (Elt F)) : sProp 𝕄 :=
  iprop(∃ f : Buf (Elt F) ((c : Thread nD τ).loc b), ⌜f = X⌝ ∗ held c b f)

set_option maxRecDepth 4000 in
def pre (c : Dev nD) : sProp 𝕄 :=
  iprop(Φ₀ m ρ c ∗ (dats m ρ 0 c).owesAt () t0_0.castSucc
    ∗ (∃ d, stgAt c cc0_stg0_0 ((dats m ρ 0 c).before (0 : Fin 5) t0_0 d))
    ∗ (∃ d, stgAt c cc0_stg1_0 ((dats m ρ 0 c).before (1 : Fin 5) t0_0 d))
    ∗ (∃ d, stgAt c cc0_stg2_0 ((dats m ρ 0 c).before (2 : Fin 5) t0_0 d))
    ∗ (∃ d, stgAt c cc0_stg3_0 ((dats m ρ 0 c).before (3 : Fin 5) t0_0 d))
    ∗ (∃ d, stgAt c cc0_stg4_0 ((dats m ρ 0 c).before (4 : Fin 5) t0_0 d)))
set_option maxRecDepth 4000 in
def post (c : Dev nD) : sProp 𝕄 :=
  iprop(Φ₁ m ρ c ∗ (dats m ρ 0 c).owesAt () t0_0.succ
    ∗ stgAt c cc0_stg0_0 (xstg m ρ c) ∗ stgAt c cc0_stg1_0 (wstg m ρ c) ∗ stgAt c cc0_stg2_0 (astg m ρ c)
    ∗ stgAt c cc0_stg3_0 (bstg m ρ c) ∗ stgAt c cc0_stg4_0 (outT m ρ c))

/-- What an operand's staging buffer holds when the body starts. -/
theorem before_x (c : Dev nD) (d) : (dats m ρ 0 c).before (0 : Fin 5) t0_0 d = xstg m ρ c := by
  unfold Dat.before; rw [if_pos (fetch0_0 t0_0)]; rfl
theorem before_w (c : Dev nD) (d) : (dats m ρ 0 c).before (1 : Fin 5) t0_0 d = wstg m ρ c := by
  unfold Dat.before; rw [if_pos (fetch0_1 t0_0)]; rfl
theorem before_a (c : Dev nD) (d) : (dats m ρ 0 c).before (2 : Fin 5) t0_0 d = astg m ρ c := by
  unfold Dat.before; rw [if_pos (fetch0_2 t0_0)]; rfl
theorem before_b (c : Dev nD) (d) : (dats m ρ 0 c).before (3 : Fin 5) t0_0 d = bstg m ρ c := by
  unfold Dat.before; rw [if_pos (fetch0_3 t0_0)]; rfl

/-- Held before the body, as the program's opening and operands. -/
theorem pre_open (c : Dev nD) :
    pre m ρ c ⊢ iprop(∃ K, openPre m ρ K c ∗ operands m ρ c ∗ (∃ f, held c cc0_scratch1 f) ∗ ∃ f, held c cc0_stg4_0 f) := by
  unfold pre Φ₀ start
  simp only [before_x, before_w, before_a, before_b]
  unfold Dat.owesAt Pipeline.owesWithin
  rw [show (dats m ρ 0 c).owed t0_0.castSucc = O₀ c from rfl]
  iintro ⟨⟨⟨⟨%K, Hg⟩, HcB, HcR, Hlev⟩, Hs0, Hs1⟩, ⟨%W, -, HO⟩, ⟨%d0, %f0, %h0, Hx⟩, ⟨%d1, %f1, %h1, Hw⟩, ⟨%d2, %f2, %h2, Ha⟩, ⟨%d3, %f3, %h3, Hb⟩, ⟨%d4, %f4, -, Ho⟩⟩
  subst h0 h1 h2 h3
  unfold ghost
  icases Hg with ⟨Hrec, HtB, HatB, HT, HS, HR⟩
  iexists K
  unfold openPre operands
  isplitl [Hrec Hlev HO HtB HcB HatB HT HS HR HcR Hs0 Hx]
  · isplitl [Hrec Hlev]; · isplitl [Hrec] <;> iassumption
    isplitl [HO]; · iexists W; iexact HO
    isplitl [HtB]; · iexact HtB
    isplitl [HcB HatB]; · isplitl [HcB] <;> iassumption
    isplitl [HT]; · iexact HT
    isplitl [HS]; · iexact HS
    isplitl [HR HcR]
    · iapply (show iprop((bigSep Finset.univ fun j : J => (atPos ER (rcvCell c j) 0 ∅ 0 : sProp 𝕄)) ∗ bigSep Finset.univ fun j : J => cred (tallyAt (rcvCell c j) () N))
          ⊢ bigSep Finset.univ (recvTok (F := F) c) from Entails.of_eq (bigSep_sep' _ _ _).symm)
      isplitl [HR] <;> iassumption
    isplitl [Hs0] <;> iassumption
  isplitl [Hw Ha Hb]
  · isplitl [Hw]; · iexact Hw
    isplitl [Ha] <;> iassumption
  isplitl [Hs1]; · iexact Hs1
  iexists f4; iexact Ho

/-- The program's end, as held after the body. -/
theorem finish_post (c : Dev nD) :
    iprop(finish m ρ c ∗ semVal (barCell c) 0 ∗ held c cc0_stg0_0 (xstg m ρ c) ∗ operands m ρ c) ⊢ post m ρ c := by
  unfold post Φ₁ finish operands Dat.owesAt Pipeline.owesWithin
  rw [show (dats m ρ 0 c).owed t0_0.succ = 0 from rfl]
  iintro ⟨⟨⟨%W, HO⟩, HzS, HzR, Hg, Hu, Ho⟩, Hz, Hx, Hw, Ha, Hb⟩
  isplitl [HzS HzR Hg Hu Hz]
  · isplitl [Hg Hu]; · isplitl [Hg] <;> iassumption
    isplitl [Hz]; · iexact Hz
    isplitl [HzS] <;> iassumption
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Ha]
  · iexists _; isplitr; · (ipureintro; rfl)
    iexact Ha
  isplitl [Hb]
  · iexists _; isplitr; · (ipureintro; rfl)
    iexact Hb
  iexists _; isplitr; · (ipureintro; rfl)
  iexact Ho

set_option maxRecDepth 4000 in
/-- The body as printed. -/
theorem wp_printed (c : Dev nD) :
    pre m ρ c ⊢ wp frame (wpE (defs₀ (F := F)) 𝒱₀ (c : Thread nD τ) none) Set.univ
      (cc0_body xM (Memref.isWhole_whole _) wM (Memref.isWhole_whole _) aM (Memref.isWhole_whole _) bM (Memref.isWhole_whole _) oM (Memref.isWhole_whole _)
        gM (Memref.isWhole_whole _) uM (Memref.isWhole_whole _) cc0_scratch2 cc0_scratch3 cc0_scratch4 cc0_scratch5) (fun _ => post m ρ c) := by
  rw [cc0_body_eq, wp_deviceId]
  refine (pre_open m ρ c).trans ?_
  iintro ⟨%K, H⟩
  iapply ((wp_bodyP m ρ K c).trans (wp_mono _ _ _ fun _ => finish_post m ρ c))
  iexact H

set_option maxRecDepth 65536 in
/-- What the pipeline theorem asks of the body. -/
theorem body_obligation (c : Dev nD) : BodyObligation (dats (F := F) m ρ 0 c) (defs₀ (F := F)) 𝒱₀ () Set.univ := fun t => by
  rw [fin_N0 t]
  rw [bigSep_W0, bigSep_W0]
  simp only [owns_held]
  exact wp_printed m ρ c

end Cert.KernelIdeal.Ring

end
-- ==== Proof.KernelIdeal.Deal.lean ====
/- What the launch deals out: every cell's state, the rights to pay, carried to the devices that pay, and the credits of
   what the neighbours owe. -/
module

public import proofs.«01_k».proof.Proof.KernelIdeal.Obligation

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cel → ℕ)

/-! ## Cells and tokens -/

/-- The kernel's own semaphores: the sends and the receives. -/
abbrev osem (q : J ⊕ J) : SemLoc sig := csem (some q)
theorem ownSemFacts : Pipeline.OwnSemFacts cfg0.spec osem where
  isScoped := by decide +kernel
  inj := fun a b h => Option.some.inj (csem_injective h)
  disj := by decide +kernel

/-- Every cell; -/
def allCells : Finset (GSem nD τ sig) := Finset.univ.map ⟨kcell, kcell_injective⟩
/-- a device's payments, as rights: two at its barrier, one at every send and every receive; -/
abbrev payKey (x : Dev nD × (Bool ⊕ (J ⊕ J))) : GSem nD τ sig × ℕ × Bool := match x.2 with
  | .inl d => (barCell x.1, 0, d)
  | .inr q => (kcell (x.1, some q), 0, false)
theorem payKey_injective : Function.Injective payKey := by
  have hk : ∀ x : Dev nD × (Bool ⊕ (J ⊕ J)), (payKey x).1 = kcell (x.1, x.2.elim (fun _ => none) some) := by
    rintro ⟨c, d | q⟩ <;> rfl
  rintro ⟨c, x⟩ ⟨c', x'⟩ h
  have h1 := kcell_injective ((hk _).symm.trans ((congrArg Prod.fst h).trans (hk _)))
  have hc : c = c' := congrArg Prod.fst h1
  have hx : x.elim (fun _ => none) some = x'.elim (fun _ => none) some := congrArg Prod.snd h1
  subst hc
  rcases x with d | q <;> rcases x' with d' | q'
  · have : d = d' := congrArg (fun y : GSem nD τ sig × ℕ × Bool => y.2.2) h
    rw [this]
  · exact absurd hx (by simp)
  · exact absurd hx (by simp)
  · have : q = q' := Option.some.inj hx
    rw [this]
/-- all of them. -/
def allToks : Finset (GSem nD τ sig × ℕ × Bool) := Finset.univ.map ⟨payKey, payKey_injective⟩

/-- The element the launch starts from: the staging cells' and this protocol's. -/
def u₀ : UU := (initOf (Pipeline.cells cfgs cellOf_inj) (Pipeline.launchToks cfgs cellOf_inj), initOf allCells allToks)

omit [FloatOps F] in
/-- A conjunction over a device's cells: the barrier, the sends, the receives. -/
theorem cells_split (Φ : Cel → sProp 𝕄) : bigSep Finset.univ Φ
    = iprop(Φ none ∗ (bigSep Finset.univ fun j : J => Φ (some (.inl j))) ∗ bigSep Finset.univ fun j : J => Φ (some (.inr j))) := by
  rw [show (Finset.univ : Finset Cel) = insert none (Finset.univ.map Function.Embedding.some) from by
      ext x; cases x <;> simp,
    push Φ (by simp), bigSep_map, bigSep_univ_sum]
  rfl

/-- The rights to pay a device's own cells. -/
def toks (c : Dev nD) : sProp 𝕄 :=
  iprop((dutyTok ER (barCell c) 0 true ∗ dutyTok ER (barCell c) 0 false)
    ∗ (bigSep Finset.univ fun j : J => dutyTok ER (sndCell c j) 0 false) ∗ bigSep Finset.univ fun j : J => dutyTok ER (rcvCell c j) 0 false)
/-- The rights a device pays with. -/
def pays (c : Dev nD) : sProp 𝕄 :=
  iprop((dutyTok ER (barCell (prv c)) 0 true ∗ dutyTok ER (barCell (nxt c)) 0 false)
    ∗ bigSep Finset.univ fun j : J => iprop(dutyTok ER (sndCell c j) 0 false ∗ dutyTok ER (rcvCell (tgt c j) j) 0 false))

/-- The devices moved along a transfer. -/
def along (j : J) : Dev nD ≃ Dev nD := ⟨fun c => tgt c j, fun c => org c j, fun c => org_tgt c j, fun c => tgt_org c j⟩

omit [FloatOps F] in
/-- Every right carried to the device that pays with it. -/
theorem toks_pays : (bigSep Finset.univ fun c : Dev nD => (toks (F := F) c)) ⊢ bigSep Finset.univ fun c : Dev nD => pays (F := F) c := by
  unfold toks pays
  have hr : (bigSep Finset.univ fun c : Dev nD => bigSep Finset.univ fun j : J => (dutyTok ER (rcvCell c j) 0 false : sProp 𝕄))
      = bigSep Finset.univ fun c : Dev nD => bigSep Finset.univ fun j : J => dutyTok ER (rcvCell (tgt c j) j) 0 false := by
    rw [bigSep_univ_comm, bigSep_univ_comm (fun (c : Dev nD) (j : J) => (dutyTok ER (rcvCell (tgt c j) j) 0 false : sProp 𝕄))]
    exact bigSep_congr fun j _ => bigSep_univ_equiv (along j) (fun c : Dev nD => (dutyTok ER (rcvCell c j) 0 false : sProp 𝕄))
  simp only [bigSep_sep']
  rw [hr, bigSep_univ_equiv ring.symm (fun c : Dev nD => (dutyTok ER (barCell c) 0 true : sProp 𝕄)),
    bigSep_univ_equiv ring (fun c : Dev nD => (dutyTok ER (barCell c) 0 false : sProp 𝕄))]
  exact Entails.refl _

/-- What the starting element deals a device; -/
def G (c : Dev nD) : sProp 𝕄 :=
  iprop((bigSep Finset.univ fun k : Cel => roundState ER (rd m ρ) (kcell (c, k)) 0)
    ∗ ((bigSep Finset.univ fun k : Cel => atPos ER (kcell (c, k)) 0 ∅ 0) ∗ bigSep Finset.univ fun k : Cel => reached ER (kcell (c, k)) 0) ∗ toks (F := F) c)
/-- and what the devices make of it together. -/
def G' (c : Dev nD) : sProp 𝕄 := iprop(∃ K, ghost m ρ K c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cel => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    refine bigSep_congr fun c _ => ?_
    unfold toks
    rw [bigSep_univ_sum, bigSep_univ_sum, bigSep_univ_eq_bigSepL [true, false] (by decide) (by decide), bigSepL_cons_cons, bigSepL_singleton]
    rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun j : J => semVal (sndCell c j) 0) ∗ bigSep Finset.univ fun j : J => semVal (rcvCell c j) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl
omit [FloatOps F] in
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Cel => semVal (kcell (c, k)) 0 : sProp 𝕄) := by
  rw [ownSems0_eq, unscopedSems0_eq, cells_split]
  iintro ⟨⟨HS, HR⟩, HB⟩
  isplitl [HB]; · iexact HB
  isplitl [HS]; · iexact HS
  iexact HR

/-- Every cell of a device put under its invariant. -/
theorem install (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cel => iprop(∃ κ : ℕ, cellInv ER (rd m ρ) κ (kcell (c, k))))
          ∗ ((bigSep Finset.univ fun k : Cel => atPos ER (kcell (c, k)) 0 ∅ 0) ∗ bigSep Finset.univ fun k : Cel => reached ER (kcell (c, k)) 0) ∗ toks (F := F) c) := by
  unfold G
  iintro ⟨Hos, Hus, Hst, Hat, Htok⟩
  ihave Hv := (sems0 (F := F) c) $$ [Hos Hus]
  · isplitl [Hos] <;> iassumption
  imod (show iprop((bigSep Finset.univ fun k : Cel => semVal (kcell (c, k)) 0) ∗ bigSep Finset.univ fun k : Cel => roundState ER (rd m ρ) (kcell (c, k)) 0)
      ⊢ (|={Set.univ}=> bigSep Finset.univ fun k : Cel => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The deal -/

/-- A device's part, the records shared. -/
theorem ghost_of (c : Dev nD) :
    iprop(records m ρ K ∗ (bigSep Finset.univ fun k : Cel => (atPos ER (kcell (c, k)) 0 ∅ 0 : sProp 𝕄)) ∗ pays (F := F) c) ⊢ G' m ρ c := by
  rw [cells_split]
  unfold G' ghost pays
  iintro ⟨Hrec, ⟨HB, HS, HR⟩, HtB, HT⟩
  iexists K
  isplitl [Hrec]; · iexact Hrec
  isplitl [HtB]; · iexact HtB
  isplitl [HB]; · iexact HB
  isplitl [HT]; · iexact HT
  isplitl [HS]; · iexact HS
  iexact HR

omit [FloatOps F] in
/-- A persistent fact dealt to every member. -/
theorem deal {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := by
  refine (sep_mono_left (BI.bigSep_of_persistent (Finset.univ : Finset (Dev nD)) R)).trans ?_
  rw [← bigSep_sep']
  exact bigSep_mono fun c _ => h c

theorem together :
    (bigSep Finset.univ fun c : Dev nD => iprop((bigSep Finset.univ fun k : Cel => iprop(∃ κ : ℕ, cellInv ER (rd m ρ) κ (kcell (c, k))))
          ∗ ((bigSep Finset.univ fun k : Cel => atPos ER (kcell (c, k)) 0 ∅ 0) ∗ bigSep Finset.univ fun k : Cel => reached ER (kcell (c, k)) 0) ∗ toks (F := F) c) : sProp 𝕄)
      ⊢ bigSep Finset.univ (G' m ρ) := by
  rw [bigSep_sep', bigSep_sep', bigSep_sep', ← bigSep_univ_prod (fun x : Dev nD × Cel => iprop(∃ κ : ℕ, cellInv ER (rd m ρ) κ (kcell x))),
    ← bigSep_univ_prod (fun x : Dev nD × Cel => (reached ER (kcell x) 0 : sProp 𝕄))]
  iintro ⟨HI, ⟨Hat, #HR⟩, Htok⟩
  ihave HK := (BI.bigSep_exists_pi Finset.univ (fun (x : Dev nD × Cel) (κ : ℕ) => (cellInv ER (rd m ρ) κ (kcell x) : sProp 𝕄))) $$ HI
  icases HK with ⟨%K, #HI⟩
  ihave Hp := (toks_pays (F := F)) $$ Htok
  iapply (deal (R := records m ρ K) fun c => ghost_of m ρ K c)
  isplitr
  · unfold records; isplitl; · iexact HI
    iexact HR
  iapply (Entails.of_eq (bigSep_sep' Finset.univ (fun c : Dev nD => bigSep Finset.univ fun k : Cel => (atPos ER (kcell (c, k)) 0 ∅ 0 : sProp 𝕄)) (pays (F := F))).symm)
  isplitl [Hat] <;> iassumption

/-- The devices' semaphores and deals, put together once for all. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => install m ρ c).trans (bigSep_fupd _ _)).trans (BI.fupd_mono (together m ρ))

/-! ## The credits -/

theorem kcell_iff {x y : Dev nD × Cel} : kcell x = kcell y ↔ x = y := kcell_injective.eq_iff

/-- What device `d` owes device `c`'s barrier cell: a unit if it is a neighbour; -/
theorem owes_bar (d c : Dev nD) : O₀ d (barCell c) () = (if d = prv c then 1 else 0) + (if d = nxt c then 1 else 0) := by
  have h0 : owed d Finset.univ (barCell c) () = 0 := Nat.eq_zero_of_not_pos fun h => by
    obtain ⟨j, -, hj⟩ := owed_pos h
    have hj : kcell (c, none) = kcell (tgt d j, some (.inr j)) := hj
    exact absurd (congrArg Prod.snd (kcell_injective hj)) (by simp)
  have hb : ∀ a b : Dev nD, barCell a = barCell b ↔ a = b := fun a b =>
    ⟨fun h => by have h : kcell (a, none) = kcell (b, none) := h; exact congrArg Prod.fst (kcell_injective h), fun h => by rw [h]⟩
  unfold O₀ O₁
  rw [Pi.add_apply, Finsupp.add_apply, Pi.add_apply, Finsupp.add_apply, h0, Nat.zero_add, tallyAt_apply, tallyAt_apply]
  simp only [hb, and_true]
  rw [if_congr (show c = nxt d ↔ d = prv c from ⟨fun h => by rw [h, prv_nxt], fun h => by rw [h, nxt_prv]⟩) rfl rfl,
    if_congr (show c = prv d ↔ d = nxt c from ⟨fun h => by rw [h, nxt_prv], fun h => by rw [h, prv_nxt]⟩) rfl rfl]

/-- and its receive cell `j`: one block, if the transfer comes from it. -/
theorem owes_rcv (d c : Dev nD) (j : J) : O₀ d (rcvCell c j) () = if d = org c j then N else 0 := by
  have hb : ∀ a : Dev nD, rcvCell c j ≠ barCell a := fun a h => by
    have h : kcell (c, some (.inr j)) = kcell (a, none) := h
    exact absurd (congrArg Prod.snd (kcell_injective h)) (by simp)
  unfold O₀ O₁ owed
  rw [Pi.add_apply, Finsupp.add_apply, Pi.add_apply, Finsupp.add_apply, tallyAt_ne_cell (hb _), tallyAt_ne_cell (hb _), Finsupp.zero_apply,
    Nat.add_zero, Nat.add_zero, Finset.sum_apply, Finsupp.finset_sum_apply,
    Finset.sum_eq_single j (fun i _ hi => by
      rw [tallyAt_apply, if_neg]
      rintro ⟨h, -⟩
      have h : kcell (c, some (.inr j)) = kcell (tgt d i, some (.inr i)) := h
      have := congrArg Prod.snd (kcell_injective h)
      simp only [Option.some.injEq, Sum.inr.injEq] at this
      exact hi this.symm) (fun h => absurd (Finset.mem_univ j) h), tallyAt_apply]
  refine if_congr ⟨?_, ?_⟩ rfl rfl
  · rintro ⟨h, -⟩
    have h : kcell (c, some (.inr j)) = kcell (tgt d j, some (.inr j)) := h
    rw [show c = tgt d j from congrArg Prod.fst (kcell_injective h), org_tgt]
  · rintro rfl
    rw [tgt_org]; exact ⟨rfl, rfl⟩

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owes_bar d c, Finset.sum_add_distrib,
    Finset.sum_ite_eq' Finset.univ (prv c) fun _ => 1, Finset.sum_ite_eq' Finset.univ (nxt c) fun _ => 1, if_pos (Finset.mem_univ _), if_pos (Finset.mem_univ _)]
theorem credit_rcv (c : Dev nD) (j : J) :
    tallyOn (rcvCell c j) (launchCredit (Pipeline.owing O₀) 0 (rcvCell c j)) = (tallyAt (rcvCell c j) () N : CellTallies nD τ sig Unit) := by
  unfold tallyAt; refine congrArg _ (Finsupp.ext fun u => ?_); cases u
  rw [Pipeline.launchCredit_owing, Finsupp.single_eq_same, Finset.sum_congr rfl fun d _ => owes_rcv d c j,
    Finset.sum_ite_eq' Finset.univ (org c j) fun _ => N, if_pos (Finset.mem_univ _)]

omit [FloatOps F] in
theorem drop_fst (P Q : sProp 𝕄) : iprop(P ∗ Q) ⊢ Q := by
  iintro ⟨-, H⟩; iexact H

omit [FloatOps F] in
/-- What a device's neighbours owe it. -/
theorem credits (c : Dev nD) :
    (Pipeline.launchCred O₀ c : sProp 𝕄) ⊢ iprop(cred (tallyAt (barCell c) () 2) ∗ bigSep Finset.univ fun j : J => cred (tallyAt (rcvCell c j) () N)) := by
  unfold Pipeline.launchCred
  refine (bigSep_subset (Finset.subset_univ (Finset.univ.map ⟨csem, csem_injective⟩))).trans ?_
  rw [bigSep_map, cells_split]
  refine BI.Laws.sep_mono (Entails.of_eq (congrArg cred (credit_bar c))) ((drop_fst _ _).trans ?_)
  exact each fun (j : J) _ => Entails.of_eq (congrArg cred (credit_rcv c j))

end Cert.KernelIdeal.Ring

end
-- ==== Proof.KernelIdeal.Launch.lean ====
/- The run of the whole mesh: it ends, the arrays as computed, every semaphore at zero. -/
module

public import proofs.«01_k».proof.Proof.KernelIdeal.Deal
public import Idealize.ShloMosaic.Lib.Quiescent
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

/-- What a device starts with, out of what the launch gives it; -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (credits (F := F) c) $$ Hcr
  icases Hc with ⟨HB, HR⟩
  imodintro
  unfold start G'
  isplitl
  · isplitl [HG]; · iexact HG
    isplitl [HB]; · iexact HB
    isplitl [HR]; · iexact HR
    iexact Hlev
  · iempintro

/-- with the scratch buffers, what the body starts with; -/
theorem phi_first (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ held
  iintro ⟨Hs, -, H0, H1⟩
  isplitl [Hs]; · iexact Hs
  isplitl [H0]; · iexact H0
  iexact H1

/-- and what the body ends with, given back. -/
theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ held
  iintro ⟨⟨Hg, Hu⟩, HB, HS, HR⟩
  isplitl [HB]; · iexact HB
  isplitl [HS HR]
  · isplitl [HS]; · iexact HS
    iexact HR
  isplitl [Hg]; · iexists _; iexact Hg
  iexists _; iexact Hu

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-- An array after the run. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with every semaphore at zero the mesh runs to its end, every array as computed and every semaphore at
    zero again. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold what they held. -/
theorem final_in (c : Dev nD) (w : Fin cfg0.W) (h : (cfg0.win w).isOut = false) :
    finalA m ρ c w = m ((cfg0.win w).arr.view.loc (c : Thread nD τ)) :=
  (dats (F := F) m ρ 0 c).arrAt_in w h _

/-- The result's array, read back, is the product. -/
theorem final_out (c : Dev nD) : (win0_4.blk (0 : Fin 1)).view.read (Elt F) (finalA m ρ c (4 : Fin 5)) = outT m ρ c := by
  unfold finalA
  rw [show cfg0.N = ((0 : Fin 1) : Fin cfg0.N).val + 1 from rfl, (dats m ρ 0 c).arrAt_succ (4 : Fin 5) (0 : Fin 1),
    if_pos (flush0_4 (0 : Fin 1))]
  exact View.read_write_univ _ _

/-- The run ends, the operands unchanged and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c 0).trans (final_in m ρ c 0 rfl), (h.1 c 1).trans (final_in m ρ c 1 rfl),
    (h.1 c 2).trans (final_in m ρ c 2 rfl), (h.1 c 3).trans (final_in m ρ c 3 rfl)⟩, h.2⟩) (run_main m ρ)

end Cert.KernelIdeal.Ring

end
-- ==== Proof.Dot.lean ====
/-
  A scaled dot product of two rows of exact values, which both programs compute at each entry.
-/
module

public import Idealize.ShloMosaic.PureOps.Ideal.Laws

@[expose] public section

noncomputable section

namespace Cert.Dot

open scoped BigOperators

/-- The sum of the products of `x` and `w`, times the product of two scales. -/
def scaled {K : ℕ} (x w : Fin K → EReal) (a b : EReal) : EReal := (∑ k, x k * w k) * (a * b)

end Cert.Dot

end
-- ==== Proof.KernelIdeal.Product.lean ====
/-
  The kernel's result on each device, entry by entry, as exact values.
-/
module

public import proofs.«01_k».proof.Proof.KernelIdeal.Launch
public import proofs.«01_k».proof.Proof.Dot
public import Idealize.ShloMosaic.Lib.MatmulPlain
public import Idealize.ShloMosaic.Lib.Pipeline.Value

@[expose] public section

set_option maxRecDepth 16384

noncomputable section

namespace Cert.KernelIdeal.Ring

open Cert.KernelIdeal Cert.KernelIdeal.Gen Idealize.ShloMosaic Idealize.ShloMosaic.TcCoe Idealize.SL.Sem
open Idealize.ShloMosaic.ValueIdx
open scoped BigOperators

section
variable {F : FTy → Type} [FloatOps F]
variable (m : (ℓ : Loc nD τ sig) → Buf (Elt F) ℓ) (ρ : Dev nD → PrngReg)

/-! Each window's one block is its whole array. -/

theorem block0 (f : (main_arg0 : Ref sig .tc).ty.Contents (Elt F)) : (win0_0.blk (0 : Fin 1)).view.read (Elt F) f = f :=
  Memref.read_access_unit_zero (Elt F) main_arg0 (off := fun a => win0_0.index (0 : Fin 1) a * (main_arg0 : Ref sig .tc).ty.shape.size a)
    (funext fun a => by fin_cases a <;> decide) (fun a => by fin_cases a <;> decide) f
theorem block1 (f : (main_arg1 : Ref sig .tc).ty.Contents (Elt F)) : (win0_1.blk (0 : Fin 1)).view.read (Elt F) f = f :=
  Memref.read_access_unit_zero (Elt F) main_arg1 (off := fun a => win0_1.index (0 : Fin 1) a * (main_arg1 : Ref sig .tc).ty.shape.size a)
    (funext fun a => by fin_cases a <;> decide) (fun a => by fin_cases a <;> decide) f
theorem block2 (f : (main_arg2 : Ref sig .tc).ty.Contents (Elt F)) : (win0_2.blk (0 : Fin 1)).view.read (Elt F) f = f :=
  Memref.read_access_unit_zero (Elt F) main_arg2 (off := fun a => win0_2.index (0 : Fin 1) a * (main_arg2 : Ref sig .tc).ty.shape.size a)
    (funext fun a => by fin_cases a <;> decide) (fun a => by fin_cases a <;> decide) f
theorem block3 (f : (main_arg3 : Ref sig .tc).ty.Contents (Elt F)) : (win0_3.blk (0 : Fin 1)).view.read (Elt F) f = f :=
  Memref.read_access_unit_zero (Elt F) main_arg3 (off := fun a => win0_3.index (0 : Fin 1) a * (main_arg3 : Ref sig .tc).ty.shape.size a)
    (funext fun a => by fin_cases a <;> decide) (fun a => by fin_cases a <;> decide) f
theorem block4 (f : (main_v1 : Ref sig .tc).ty.Contents (Elt F)) : (win0_4.blk (0 : Fin 1)).view.read (Elt F) f = f :=
  Memref.read_access_unit_zero (Elt F) main_v1 (off := fun a => win0_4.index (0 : Fin 1) a * (main_v1 : Ref sig .tc).ty.shape.size a)
    (funext fun a => by fin_cases a <;> decide) (fun a => by fin_cases a <;> decide) f

/-- The result array of a device, whole. -/
theorem final_whole (c : Dev nD) : finalA m ρ c (4 : Fin 5) = outT m ρ c := (block4 _).symm.trans (final_out m ρ c)

/-- A gathered block, with its slot's axis dropped, is the device's operand. -/
theorem blockOf_flat (o : Dev nD) :
    (shapeCast S128x4096 (blockOf m ρ o) shapeCasts_S1x128x4096_S128x4096 : FVec F S128x4096 .fp8e4m3)
      = m ((o : Thread nD τ).loc main_arg0) := by
  unfold blockOf k0_pay1
  dsimp only
  rw [shapeCast_shapeCast, shapeCast_self]
  exact block0 _

/-- The widened weights, from the operand. -/
theorem wbf_flat (c : Dev nD) :
    wbf m ρ c = extf .bf16 (m ((c : Thread nD τ).loc main_arg1) : FVec F S4096x256 .fp8e5m2) bitsLt_fp8e5m2_bf16 := by
  unfold wbf k0_pay3
  dsimp only
  rw [shapeCast_self, shapeCast_self]
  exact congrArg (fun x => extf .bf16 (x : FVec F S4096x256 .fp8e5m2) bitsLt_fp8e5m2_bf16) (block1 _)

/-- The scale, from the operands. -/
theorem scl_flat (c : Dev nD) :
    scl m ρ c = Scalar.mulf (m ((c : Thread nD τ).loc main_arg2) only) (m ((c : Thread nD τ).loc main_arg3) only) := by
  unfold scl k0_pay2
  exact congrArg₂ (fun (x y : (main_arg2 : Ref sig .tc).ty.Contents (Elt F)) => Scalar.mulf (x only) (y only)) (block2 _) (block3 _)

end

variable (m : (ℓ : Loc nD τ sig) → Buf (Elt Ideal) ℓ) (ρ : Dev nD → PrngReg)

/-- One entry of a block's product, exactly. -/
theorem prod_entry (c o : Dev nD) (r : Fin 128) (l : Fin 256) :
    prodOf m ρ c o (ix2 r l)
      = Dot.scaled (K := 4096) (fun k => m ((o : Thread nD τ).loc main_arg0) (ix2 r k)) (fun k => m ((c : Thread nD τ).loc main_arg1) (ix2 k l))
          (m ((c : Thread nD τ).loc main_arg2) only) (m ((c : Thread nD τ).loc main_arg3) only) := by
  unfold prodOf prodAt
  rw [blockOf_flat, wbf_flat, scl_flat]
  have h := Ideal.matmul_plain_apply (M := 128) (K := 4096) (N := 256) (φ₁ := .bf16) (φ₂ := .bf16) none
    (extf .bf16 (m ((o : Thread nD τ).loc main_arg0) : FVec Ideal S128x4096 .fp8e4m3) bitsLt_fp8e4m3_bf16)
    (extf .bf16 (m ((c : Thread nD τ).loc main_arg1) : FVec Ideal S4096x256 .fp8e5m2) bitsLt_fp8e5m2_bf16)
    (constant S128x256 .f32 0x00000000#32) r l
  have z : (constant S128x256 .f32 0x00000000#32 : FVec Ideal S128x256 .f32) (ix2 r l) = (0 : EReal) := Ideal.ofBits_zero_f32
  rw [z, zero_add] at h
  exact congrArg (fun t : EReal => t * (show EReal from Scalar.mulf (F := Ideal) (φ := .f32) (m ((c : Thread nD τ).loc main_arg2) only) (m ((c : Thread nD τ).loc main_arg3) only))) h

/-- One entry of a device's result, exactly. -/
theorem out_entry (c o : Dev nD) (i : S4096x256.Idx) (r : Fin 128) (l : Fin 256)
    (hr : (i (0 : Fin 2)).val = o.val * 128 + r.val) (hl : (i (1 : Fin 2)).val = l.val) :
    outT m ρ c i
      = Dot.scaled (K := 4096) (fun k => m ((o : Thread nD τ).loc main_arg0) (ix2 r k)) (fun k => m ((c : Thread nD τ).loc main_arg1) (ix2 k l))
          (m ((c : Thread nD τ).loc main_arg2) only) (m ((c : Thread nD τ).loc main_arg3) only) := by
  refine Eq.trans ?_ (prod_entry m ρ c o r l)
  have := r.isLt
  unfold outT
  refine congr (congrArg (prodOf m ρ c) (Fin.ext (?_ : _ / 128 = _))) (funext fun a => ?_)
  · omega
  · fin_cases a
    · exact Fin.ext (show (i (0 : Fin 2)).val % 128 = r.val by omega)
    · exact Fin.ext hl

end Cert.KernelIdeal.Ring

end
-- ==== Proof.ReferenceIdeal.Product.lean ====
/-
  The reference's result: one product of the whole arrays, scaled.
-/
module

public import proofs.«01_k».proof.Proof.Gen.ReferenceIdeal.Value
public import proofs.«01_k».proof.Proof.Dot
public import Idealize.ShloMosaic.Lib.MatmulPlain
public import Idealize.ShloMosaic.Lib.WholeRead
public import Idealize.ShloMosaic.Lib.VecWindow

@[expose] public section

set_option maxRecDepth 16384

noncomputable section

namespace Cert.ReferenceIdeal.Product

open Cert.ReferenceIdeal Cert.ReferenceIdeal.Gen Idealize.ShloMosaic Idealize.ShloMosaic.TcCoe Idealize.SL.Sem
open Idealize.ShloMosaic.ValueIdx
open scoped BigOperators

section
variable {F : FTy → Type} [FloatOps F]

/-- The one index of a scale. -/
def one : S1.Idx := Fin.cons (0 : Fin 1) finZeroElim

theorem one_eq (i : S1.Idx) : i = one := funext fun a => by fin_cases a; exact Subsingleton.elim (α := Fin 1) _ _

/-- The body leaves the scaled product of the blocks it is given. -/
theorem left_over (c : Dev nD) (a0 : Memref sig .tc .vmem S4096x4096 .fp8e4m3) (h0 : a0.IsWhole)
    (a1 : Memref sig .tc .vmem S4096x8192 .fp8e5m2) (h1 : a1.IsWhole) (a2 : Memref sig .tc .smem S1 .f32) (h2 : a2.IsWhole)
    (a3 : Memref sig .tc .smem S1 .f32) (h3 : a3.IsWhole) (a4 : Memref sig .tc .vmem S4096x8192 .f32) (h4 : a4.IsWhole)
    (x0 : Vec F S4096x4096 .fp8e4m3) (x1 : Vec F S4096x8192 .fp8e5m2) (x2 x3 : Vec F S1 .f32) :
    out0_A_4 c a0 h0 a1 h1 a2 h2 a3 h3 a4 h4 x0 x1 x2 x3 = k0_pay1 x0 x1 (x2 one) (x3 one) := by
  unfold out0_A_4
  unfold kernelRun0_A
  dsimp only
  rw [View.read_writes_full]
  have e0 : ∀ B, View.readAt (Elt F) a0.view (Rect.unit (s := S4096x4096) ![0, 0] S4096x4096.size B).toLoadRect (h0.unread x0) = x0 := by
    intro B; rw [View.readAt_full, h0.read_unread]
  have e1 : ∀ B, View.readAt (Elt F) a1.view (Rect.unit (s := S4096x8192) ![0, 0] S4096x8192.size B).toLoadRect (h1.unread x1) = x1 := by
    intro B; rw [View.readAt_full, h1.read_unread]
  rw [e0, e1]
  congr 1
  · unfold kernelRun0_A.sl.r
    exact (h2.readAt_unread x2 _ _).trans (congrArg x2 (one_eq _))
  · unfold kernelRun0_A.sl.r_1
    exact (h3.readAt_unread x3 _ _).trans (congrArg x3 (one_eq _))

variable (m : (ℓ : Loc nD τ sig) → Buf (Elt F) ℓ)

/-! Each window's one block is its whole array. -/

theorem whole0 (f : (main_arg0 : Ref sig .tc).ty.Contents (Elt F)) : (win0_0.blk (0 : Fin 1)).view.read (Elt F) f = f :=
  Memref.read_access_unit_zero (Elt F) main_arg0 (off := fun a => win0_0.index (0 : Fin 1) a * (main_arg0 : Ref sig .tc).ty.shape.size a)
    (funext fun a => by fin_cases a <;> decide) (fun a => by fin_cases a <;> decide) f
theorem whole1 (f : (main_arg1 : Ref sig .tc).ty.Contents (Elt F)) : (win0_1.blk (0 : Fin 1)).view.read (Elt F) f = f :=
  Memref.read_access_unit_zero (Elt F) main_arg1 (off := fun a => win0_1.index (0 : Fin 1) a * (main_arg1 : Ref sig .tc).ty.shape.size a)
    (funext fun a => by fin_cases a <;> decide) (fun a => by fin_cases a <;> decide) f
theorem whole2 (f : (main_arg2 : Ref sig .tc).ty.Contents (Elt F)) : (win0_2.blk (0 : Fin 1)).view.read (Elt F) f = f :=
  Memref.read_access_unit_zero (Elt F) main_arg2 (off := fun a => win0_2.index (0 : Fin 1) a * (main_arg2 : Ref sig .tc).ty.shape.size a)
    (funext fun a => by fin_cases a <;> decide) (fun a => by fin_cases a <;> decide) f
theorem whole3 (f : (main_arg3 : Ref sig .tc).ty.Contents (Elt F)) : (win0_3.blk (0 : Fin 1)).view.read (Elt F) f = f :=
  Memref.read_access_unit_zero (Elt F) main_arg3 (off := fun a => win0_3.index (0 : Fin 1) a * (main_arg3 : Ref sig .tc).ty.shape.size a)
    (funext fun a => by fin_cases a <;> decide) (fun a => by fin_cases a <;> decide) f
theorem whole4 (f : (main_v0 : Ref sig .tc).ty.Contents (Elt F)) : (win0_4.blk (0 : Fin 1)).view.read (Elt F) f = f :=
  Memref.read_access_unit_zero (Elt F) main_v0 (off := fun a => win0_4.index (0 : Fin 1) a * (main_v0 : Ref sig .tc).ty.shape.size a)
    (funext fun a => by fin_cases a <;> decide) (fun a => by fin_cases a <;> decide) f

/-- The result array is the scaled product of the arguments. -/
theorem result (c : Dev nD) : (dats m 0 c).arrAt 4 cfg0.N
    = k0_pay1 (m ((c : Thread nD τ).loc main_arg0)) (m ((c : Thread nD τ).loc main_arg1))
        (m ((c : Thread nD τ).loc main_arg2) one) (m ((c : Thread nD τ).loc main_arg3) one) := by
  have h := (Value.blocks4 m c (0 : Fin 1) rfl).trans (Value.flushed4_A m c (0 : Fin 1))
  rw [left_over] at h
  have e0 : iblk m c 0 (0 : Fin 1) = m ((c : Thread nD τ).loc main_arg0) := whole0 _
  have e1 : iblk m c 1 (0 : Fin 1) = m ((c : Thread nD τ).loc main_arg1) := whole1 _
  have e2 : iblk m c 2 (0 : Fin 1) = m ((c : Thread nD τ).loc main_arg2) := whole2 _
  have e3 : iblk m c 3 (0 : Fin 1) = m ((c : Thread nD τ).loc main_arg3) := whole3 _
  refine (whole4 _).symm.trans (h.trans ?_)
  rw [e0, e1, e2, e3]
  rfl

end

/-- One entry of the result, exactly. -/
theorem entry (x : Vec Ideal S4096x4096 .fp8e4m3) (w : Vec Ideal S4096x8192 .fp8e5m2) (a b : Elt Ideal .f32) (r : Fin 4096) (l : Fin 8192) :
    k0_pay1 x w a b (ix2 r l) = Dot.scaled (K := 4096) (fun k => x (ix2 r k)) (fun k => w (ix2 k l)) a b := by
  have h := Ideal.matmul_plain_apply (M := 4096) (K := 4096) (N := 8192) (φ₁ := .f32) (φ₂ := .f32) none
    (extf .f32 x bitsLt_fp8e4m3_f32) (extf .f32 w bitsLt_fp8e5m2_f32) (constant S4096x8192 .f32 0x00000000#32) r l
  have z : (constant S4096x8192 .f32 0x00000000#32 : FVec Ideal S4096x8192 .f32) (ix2 r l) = (0 : EReal) := Ideal.ofBits_zero_f32
  rw [z, zero_add] at h
  exact congrArg (fun t : EReal => t * (show EReal from Scalar.mulf (F := Ideal) (φ := .f32) a b)) h

end Cert.ReferenceIdeal.Product

end
-- ==== Proof.Agree.lean ====
/-
  Each device's result is its block of the reference's columns.
-/
module

public import proofs.«01_k».proof.Defs
public import proofs.«01_k».proof.Proof.KernelIdeal.Product
public import proofs.«01_k».proof.Proof.ReferenceIdeal.Product

@[expose] public section

noncomputable section

namespace Cert.Agree

open Idealize.ShloMosaic Idealize.ShloMosaic.TcCoe Idealize.SL.Sem
open Idealize.ShloMosaic.ValueIdx

/-- The arguments of the reference, on its one device. -/
abbrev whole (m' : (ℓ : Loc ReferenceIdeal.nD ReferenceIdeal.τ ReferenceIdeal.sig) → Buf (Elt Ideal) ℓ) (b : Ref ReferenceIdeal.sig .tc) :=
  m' (((0 : Dev ReferenceIdeal.nD).tc : Thread ReferenceIdeal.nD ReferenceIdeal.τ).loc b)

/-- The scaled product of the whole arguments. -/
def product (m' : (ℓ : Loc ReferenceIdeal.nD ReferenceIdeal.τ ReferenceIdeal.sig) → Buf (Elt Ideal) ℓ) :
    Vec Ideal ReferenceIdeal.S4096x8192 .f32 :=
  ReferenceIdeal.Gen.k0_pay1 (whole m' ReferenceIdeal.main_arg0) (whole m' ReferenceIdeal.main_arg1)
    (whole m' ReferenceIdeal.main_arg2 ReferenceIdeal.Product.one) (whole m' ReferenceIdeal.main_arg3 ReferenceIdeal.Product.one)

variable (m : (ℓ : Loc KernelIdeal.nD KernelIdeal.τ KernelIdeal.sig) → Buf (Elt Ideal) ℓ) (g : Dev KernelIdeal.nD → PrngReg)
  (m' : (ℓ : Loc ReferenceIdeal.nD ReferenceIdeal.τ ReferenceIdeal.sig) → Buf (Elt Ideal) ℓ)

/-- When the devices hold the blocks of the reference's arguments, a device's result is its block of the product. -/
theorem block_product
    (h0 : ∀ c : Dev KernelIdeal.nD, m ((c.tc : Thread KernelIdeal.nD KernelIdeal.τ).loc KernelIdeal.main_arg0)
      = Layout.block ⟨2, ![128, 4096]⟩ ⟨2, ![4096, 4096]⟩ 0 32 c (whole m' ReferenceIdeal.main_arg0))
    (c : Dev KernelIdeal.nD)
    (h1 : m ((c.tc : Thread KernelIdeal.nD KernelIdeal.τ).loc KernelIdeal.main_arg1)
      = Layout.block ⟨2, ![4096, 256]⟩ ⟨2, ![4096, 8192]⟩ 1 32 c (whole m' ReferenceIdeal.main_arg1))
    (h2 : m ((c.tc : Thread KernelIdeal.nD KernelIdeal.τ).loc KernelIdeal.main_arg2) = whole m' ReferenceIdeal.main_arg2)
    (h3 : m ((c.tc : Thread KernelIdeal.nD KernelIdeal.τ).loc KernelIdeal.main_arg3) = whole m' ReferenceIdeal.main_arg3) :
    KernelIdeal.Ring.outT m g c = Layout.block ⟨2, ![4096, 256]⟩ ⟨2, ![4096, 8192]⟩ 1 32 c (product m') := by
  funext i
  have hi : (i (0 : Fin 2)).val < 4096 := (i (0 : Fin 2)).isLt
  have hj : (i (1 : Fin 2)).val < 256 := (i (1 : Fin 2)).isLt
  have hc : c.val < 32 := c.isLt
  rw [KernelIdeal.Ring.out_entry m g c ⟨(i (0 : Fin 2)).val / 128, by show _ < 32; omega⟩ i ⟨(i (0 : Fin 2)).val % 128, by omega⟩ ⟨(i (1 : Fin 2)).val, hj⟩
    (show _ = _ / 128 * 128 + _ % 128 by omega) rfl]
  have hcol : c.val * 256 + (i (1 : Fin 2)).val < 8192 := by omega
  have ht : Layout.Tiles ⟨2, ![4096, 256]⟩ ⟨2, ![4096, 8192]⟩ 1 32 := by decide
  have he : ht.idx c i = ix2 (⟨(i (0 : Fin 2)).val, hi⟩ : Fin 4096) (⟨c.val * 256 + (i (1 : Fin 2)).val, hcol⟩ : Fin 8192) := by
    funext a; fin_cases a <;> rfl
  refine Eq.trans ?_ ((ReferenceIdeal.Product.entry _ _ _ _ _ _).symm.trans (congrArg (product m') he.symm))
  rw [h0, h1, h2, h3]
  have ex : ∀ k : Fin 4096, _ := fun k => congrArg (whole m' ReferenceIdeal.main_arg0)
    (show (by decide : Layout.Tiles ⟨2, ![128, 4096]⟩ ⟨2, ![4096, 4096]⟩ 0 32).idx
        (⟨(i (0 : Fin 2)).val / 128, by omega⟩ : Fin 32) (ix2 (⟨(i (0 : Fin 2)).val % 128, by omega⟩ : Fin 128) k)
      = ix2 (⟨(i (0 : Fin 2)).val, hi⟩ : Fin 4096) k from by
        funext a; fin_cases a
        · exact Fin.ext (show _ / 128 * 128 + _ % 128 = (i (0 : Fin 2)).val by omega)
        · rfl)
  have ew : ∀ k : Fin 4096, _ := fun k => congrArg (whole m' ReferenceIdeal.main_arg1)
    (show ht.idx c (ix2 k (⟨(i (1 : Fin 2)).val, hj⟩ : Fin 256)) = ix2 k (⟨c.val * 256 + (i (1 : Fin 2)).val, hcol⟩ : Fin 8192) from by
        funext a; fin_cases a <;> rfl)
  have e2 := congrArg (whole m' ReferenceIdeal.main_arg2) (ReferenceIdeal.Product.one_eq KernelIdeal.Ring.only)
  have e3 := congrArg (whole m' ReferenceIdeal.main_arg3) (ReferenceIdeal.Product.one_eq KernelIdeal.Ring.only)
  exact congr (congr (congr (congrArg (Dot.scaled (K := 4096)) (funext ex)) (funext ew)) e2) e3

/-- Both programs run to the same product: the devices to its blocks, the reference to the whole. -/
theorem agree : algebraic_KernelIdeal_ReferenceIdeal
    (hKernelIdeal := KernelIdeal.Gen.facts) (hReferenceIdeal := ReferenceIdeal.Gen.facts) := by
  intro m g m' g' _ h
  refine ⟨product m', ?_, ?_⟩
  · refine (θ_run KernelIdeal.defs _ _).mono (fun r hr c => ⟨?_, ?_, ?_, ?_, ?_⟩) (KernelIdeal.Ring.run_main (F := Ideal) m g)
    · exact (hr.1 c 4).trans ((KernelIdeal.Ring.final_whole m g c).trans
        (block_product m g m' (fun c => (h c).1) c (h c).2.1 (h c).2.2.1 (h c).2.2.2))
    · exact (hr.1 c 0).trans (KernelIdeal.Ring.final_in m g c 0 rfl)
    · exact (hr.1 c 1).trans (KernelIdeal.Ring.final_in m g c 1 rfl)
    · exact (hr.1 c 2).trans (KernelIdeal.Ring.final_in m g c 2 rfl)
    · exact (hr.1 c 3).trans (KernelIdeal.Ring.final_in m g c 3 rfl)
  · refine (θ_run ReferenceIdeal.defs _ _).mono (fun r hr => ⟨?_, (hr 0).2⟩) (ReferenceIdeal.Value.run_blocks (F := Ideal) m' g')
    exact (hr 0).1.trans (ReferenceIdeal.Product.result m' 0)

end Cert.Agree

end
-- ==== Proof.lean ====
/- The five claims: each program runs to its end with its arguments unchanged and its counters at zero, the kernel's
   exact reading follows it operation by operation, and exactly read it computes the reference's columns. -/
module

public import proofs.«01_k».proof.Defs
public import proofs.«01_k».proof.Proof.Kernel.Launch
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Ring.quiet m ρ, fun m ρ _ => Cert.KernelIdeal.Ring.quiet m ρ,
  fun m ρ _ => Cert.ReferenceIdeal.Gen.frame m ρ, trivial, Cert.Agree.agree⟩

end Cert.Proof

end
